-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tree_inputs [hPre_tree_inputs : Cert.Pre_tree_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_tree_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tree_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_tree_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_tree_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree_inputs [hPre_tree_inputs : Cert.Pre_tree_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tree_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_tree_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_tree_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tree_inputs [hKernelIdeal : Cert.KernelIdeal.Facts] [hPre_tree_inputs : Cert.Pre_tree_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tree_inputs [hReferenceIdeal : Cert.ReferenceIdeal.Facts] [hPre_tree_inputs : Cert.Pre_tree_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tree_inputs [hKernelIdeal : Cert.KernelIdeal.Facts] [hReferenceIdeal : Cert.ReferenceIdeal.Facts] [hPre_tree_inputs : Cert.Pre_tree_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tree_inputs : Cert.Pre_tree_inputs.Facts),
    quiescent_Kernel (hKernel := hKernel)
    ∧ quiescent_KernelIdeal (hKernelIdeal := hKernelIdeal)
    ∧ quiescent_KernelIdeal_pre_tree_inputs (hKernelIdeal := hKernelIdeal) (hPre_tree_inputs := hPre_tree_inputs)
    ∧ quiescent_ReferenceIdeal (hReferenceIdeal := hReferenceIdeal)
    ∧ quiescent_ReferenceIdeal_pre_tree_inputs (hReferenceIdeal := hReferenceIdeal) (hPre_tree_inputs := hPre_tree_inputs)
    ∧ preserves_Kernel_KernelIdeal
    ∧ algebraic_KernelIdeal_ReferenceIdeal_pre_tree_inputs (hKernelIdeal := hKernelIdeal) (hReferenceIdeal := hReferenceIdeal) (hPre_tree_inputs := hPre_tree_inputs)
-- ==== Pre_tree_inputs.lean ====
abbrev S8192x512 : Shape := ⟨2, ![8192, 512]⟩
abbrev S960 : Shape := ⟨1, ![960]⟩
abbrev S512x64x16 : Shape := ⟨3, ![512, 64, 16]⟩
abbrev S960x256 : Shape := ⟨2, ![960, 256]⟩
abbrev S1024x960 : Shape := ⟨2, ![1024, 960]⟩
abbrev S64x8x4 : Shape := ⟨3, ![64, 8, 4]⟩
abbrev S15x4 : Shape := ⟨2, ![15, 4]⟩
abbrev S16x15 : Shape := ⟨2, ![16, 15]⟩
abbrev S_ : Shape := ⟨0, ![]⟩
abbrev S512x8192 : Shape := ⟨2, ![512, 8192]⟩
abbrev S64x8x8192 : Shape := ⟨3, ![64, 8, 8192]⟩
abbrev S64x8192x8 : Shape := ⟨3, ![64, 8192, 8]⟩
abbrev S64x8192x4 : Shape := ⟨3, ![64, 8192, 4]⟩
abbrev S64x4x8192 : Shape := ⟨3, ![64, 4, 8192]⟩
abbrev S256x8192 : Shape := ⟨2, ![256, 8192]⟩
abbrev S8192x256 : Shape := ⟨2, ![8192, 256]⟩
abbrev S256x960 : Shape := ⟨2, ![256, 960]⟩
abbrev S8192x960 : Shape := ⟨2, ![8192, 960]⟩
abbrev S1x960 : Shape := ⟨2, ![1, 960]⟩
abbrev S64x15x64x4 : Shape := ⟨4, ![64, 15, 64, 4]⟩
abbrev S64x16x64x15 : Shape := ⟨4, ![64, 16, 64, 15]⟩

class Facts : Prop where
  bcast_S_S512x64x16 : S_.BroadcastsInDim S512x64x16 (![] : Fin 0 → Fin S512x64x16.rank)
  transposes_S8192x512_S512x8192_1_0 : S8192x512.Transposes [1, 0] S512x8192
  shapeCasts_S512x8192_S64x8x8192 : S512x8192.ShapeCasts S64x8x8192
  transposes_S64x8x8192_S64x8192x8_0_2_1 : S64x8x8192.Transposes [0, 2, 1] S64x8192x8
  transposes_S64x8192x4_S64x4x8192_0_2_1 : S64x8192x4.Transposes [0, 2, 1] S64x4x8192
  shapeCasts_S64x4x8192_S256x8192 : S64x4x8192.ShapeCasts S256x8192
  transposes_S256x8192_S8192x256_1_0 : S256x8192.Transposes [1, 0] S8192x256
  transposes_S960x256_S256x960_1_0 : S960x256.Transposes [1, 0] S256x960
  bcast_S960_S1x960_1 : S960.BroadcastsInDim S1x960 (![1] : Fin 1 → Fin S1x960.rank)
  bcast_S1x960_S8192x960_0_1 : S1x960.BroadcastsInDim S8192x960 (![0, 1] : Fin 2 → Fin S8192x960.rank)
  bcast_S_S8192x960 : S_.BroadcastsInDim S8192x960 (![] : Fin 0 → Fin S8192x960.rank)
  bcast_S15x4_S64x15x64x4_1_3 : S15x4.BroadcastsInDim S64x15x64x4 (![1, 3] : Fin 2 → Fin S64x15x64x4.rank)
  bcast_S_S64x15x64x4 : S_.BroadcastsInDim S64x15x64x4 (![] : Fin 0 → Fin S64x15x64x4.rank)
  shapeCasts_S960x256_S64x15x64x4 : S960x256.ShapeCasts S64x15x64x4
  bcast_S16x15_S64x16x64x15_1_3 : S16x15.BroadcastsInDim S64x16x64x15 (![1, 3] : Fin 2 → Fin S64x16x64x15.rank)
  bcast_S_S64x16x64x15 : S_.BroadcastsInDim S64x16x64x15 (![] : Fin 0 → Fin S64x16x64x15.rank)
  shapeCasts_S1024x960_S64x16x64x15 : S1024x960.ShapeCasts S64x16x64x15
  dot_S64x8192x8_S64x8x4_S64x8192x4_2_1_1_2_0_0_wf : DotDims.WF S64x8192x8 S64x8x4 S64x8192x4 [2] [1] [1] [2] [0] [0]
  dot_S8192x256_S256x960_S8192x960_1_0_0_1_n_n_wf : DotDims.WF S8192x256 S256x960 S8192x960 [1] [0] [0] [1] [] []

variable [Facts]

def dot_S64x8192x8_S64x8x4_S64x8192x4_2_1_1_2_0_0 : DotDims S64x8192x8 S64x8x4 S64x8192x4 where
  lhsContracting := [2]
  rhsContracting := [1]
  lhsNonContracting := [1]
  rhsNonContracting := [2]
  lhsBatch := [0]
  rhsBatch := [0]
  wf := dot_S64x8192x8_S64x8x4_S64x8192x4_2_1_1_2_0_0_wf
def dot_S8192x256_S256x960_S8192x960_1_0_0_1_n_n : DotDims S8192x256 S256x960 S8192x960 where
  lhsContracting := [1]
  rhsContracting := [0]
  lhsNonContracting := [0]
  rhsNonContracting := [1]
  lhsBatch := []
  rhsBatch := []
  wf := dot_S8192x256_S256x960_S8192x960_1_0_0_1_n_n_wf

noncomputable abbrev lit0 : Fin 60 → BitVec 32 := fun
  | 0 => 0x3F800000#32 | 1 => 0x00000000#32 | 2 => 0x00000000#32 | 3 => 0x00000000#32 | 4 => 0x00000000#32 | 5 => 0x3F800000#32 | 6 => 0x00000000#32 | 7 => 0x00000000#32
  | 8 => 0x00000000#32 | 9 => 0x3F800000#32 | 10 => 0x00000000#32 | 11 => 0x00000000#32 | 12 => 0x00000000#32 | 13 => 0x00000000#32 | 14 => 0x3F800000#32 | 15 => 0x00000000#32
  | 16 => 0x00000000#32 | 17 => 0x00000000#32 | 18 => 0x3F800000#32 | 19 => 0x00000000#32 | 20 => 0x00000000#32 | 21 => 0x00000000#32 | 22 => 0x3F800000#32 | 23 => 0x00000000#32
  | 24 => 0x00000000#32 | 25 => 0x00000000#32 | 26 => 0x3F800000#32 | 27 => 0x00000000#32 | 28 => 0x00000000#32 | 29 => 0x00000000#32 | 30 => 0x00000000#32 | 31 => 0x3F800000#32
  | 32 => 0x00000000#32 | 33 => 0x00000000#32 | 34 => 0x00000000#32 | 35 => 0x3F800000#32 | 36 => 0x00000000#32 | 37 => 0x00000000#32 | 38 => 0x00000000#32 | 39 => 0x3F800000#32
  | 40 => 0x00000000#32 | 41 => 0x00000000#32 | 42 => 0x00000000#32 | 43 => 0x3F800000#32 | 44 => 0x00000000#32 | 45 => 0x00000000#32 | 46 => 0x00000000#32 | 47 => 0x3F800000#32
  | 48 => 0x00000000#32 | 49 => 0x00000000#32 | 50 => 0x00000000#32 | 51 => 0x3F800000#32 | 52 => 0x00000000#32 | 53 => 0x00000000#32 | 54 => 0x00000000#32 | 55 => 0x3F800000#32
  | 56 => 0x00000000#32 | 57 => 0x00000000#32 | 58 => 0x00000000#32 | 59 => 0x3F800000#32
  | _ => 0#32

noncomputable abbrev lit1 : Fin 240 → BitVec 32 := fun
  | 0 => 0xBF800000#32 | 1 => 0xBF800000#32 | 2 => 0x00000000#32 | 3 => 0xBF800000#32 | 4 => 0x00000000#32 | 5 => 0x00000000#32 | 6 => 0x00000000#32 | 7 => 0xBF800000#32
  | 8 => 0x00000000#32 | 9 => 0x00000000#32 | 10 => 0x00000000#32 | 11 => 0x00000000#32 | 12 => 0x00000000#32 | 13 => 0x00000000#32 | 14 => 0x00000000#32 | 15 => 0xBF800000#32
  | 16 => 0xBF800000#32 | 17 => 0x00000000#32 | 18 => 0xBF800000#32 | 19 => 0x00000000#32 | 20 => 0x00000000#32 | 21 => 0x00000000#32 | 22 => 0x3F800000#32 | 23 => 0x00000000#32
  | 24 => 0x00000000#32 | 25 => 0x00000000#32 | 26 => 0x00000000#32 | 27 => 0x00000000#32 | 28 => 0x00000000#32 | 29 => 0x00000000#32 | 30 => 0xBF800000#32 | 31 => 0xBF800000#32
  | 32 => 0x00000000#32 | 33 => 0x3F800000#32 | 34 => 0x00000000#32 | 35 => 0x00000000#32 | 36 => 0x00000000#32 | 37 => 0x00000000#32 | 38 => 0xBF800000#32 | 39 => 0x00000000#32
  | 40 => 0x00000000#32 | 41 => 0x00000000#32 | 42 => 0x00000000#32 | 43 => 0x00000000#32 | 44 => 0x00000000#32 | 45 => 0xBF800000#32 | 46 => 0xBF800000#32 | 47 => 0x00000000#32
  | 48 => 0x3F800000#32 | 49 => 0x00000000#32 | 50 => 0x00000000#32 | 51 => 0x00000000#32 | 52 => 0x00000000#32 | 53 => 0x3F800000#32 | 54 => 0x00000000#32 | 55 => 0x00000000#32
  | 56 => 0x00000000#32 | 57 => 0x00000000#32 | 58 => 0x00000000#32 | 59 => 0x00000000#32 | 60 => 0xBF800000#32 | 61 => 0x3F800000#32 | 62 => 0x00000000#32 | 63 => 0x00000000#32
  | 64 => 0xBF800000#32 | 65 => 0x00000000#32 | 66 => 0x00000000#32 | 67 => 0x00000000#32 | 68 => 0x00000000#32 | 69 => 0xBF800000#32 | 70 => 0x00000000#32 | 71 => 0x00000000#32
  | 72 => 0x00000000#32 | 73 => 0x00000000#32 | 74 => 0x00000000#32 | 75 => 0xBF800000#32 | 76 => 0x3F800000#32 | 77 => 0x00000000#32 | 78 => 0x00000000#32 | 79 => 0xBF800000#32
  | 80 => 0x00000000#32 | 81 => 0x00000000#32 | 82 => 0x00000000#32 | 83 => 0x00000000#32 | 84 => 0x3F800000#32 | 85 => 0x00000000#32 | 86 => 0x00000000#32 | 87 => 0x00000000#32
  | 88 => 0x00000000#32 | 89 => 0x00000000#32 | 90 => 0xBF800000#32 | 91 => 0x3F800000#32 | 92 => 0x00000000#32 | 93 => 0x00000000#32 | 94 => 0x3F800000#32 | 95 => 0x00000000#32
  | 96 => 0x00000000#32 | 97 => 0x00000000#32 | 98 => 0x00000000#32 | 99 => 0x00000000#32 | 100 => 0xBF800000#32 | 101 => 0x00000000#32 | 102 => 0x00000000#32 | 103 => 0x00000000#32
  | 104 => 0x00000000#32 | 105 => 0xBF800000#32 | 106 => 0x3F800000#32 | 107 => 0x00000000#32 | 108 => 0x00000000#32 | 109 => 0x3F800000#32 | 110 => 0x00000000#32 | 111 => 0x00000000#32
  | 112 => 0x00000000#32 | 113 => 0x00000000#32 | 114 => 0x00000000#32 | 115 => 0x3F800000#32 | 116 => 0x00000000#32 | 117 => 0x00000000#32 | 118 => 0x00000000#32 | 119 => 0x00000000#32
  | 120 => 0x3F800000#32 | 121 => 0x00000000#32 | 122 => 0xBF800000#32 | 123 => 0x00000000#32 | 124 => 0x00000000#32 | 125 => 0xBF800000#32 | 126 => 0x00000000#32 | 127 => 0x00000000#32
  | 128 => 0x00000000#32 | 129 => 0x00000000#32 | 130 => 0x00000000#32 | 131 => 0xBF800000#32 | 132 => 0x00000000#32 | 133 => 0x00000000#32 | 134 => 0x00000000#32 | 135 => 0x3F800000#32
  | 136 => 0x00000000#32 | 137 => 0xBF800000#32 | 138 => 0x00000000#32 | 139 => 0x00000000#32 | 140 => 0xBF800000#32 | 141 => 0x00000000#32 | 142 => 0x00000000#32 | 143 => 0x00000000#32
  | 144 => 0x00000000#32 | 145 => 0x00000000#32 | 146 => 0x3F800000#32 | 147 => 0x00000000#32 | 148 => 0x00000000#32 | 149 => 0x00000000#32 | 150 => 0x3F800000#32 | 151 => 0x00000000#32
  | 152 => 0xBF800000#32 | 153 => 0x00000000#32 | 154 => 0x00000000#32 | 155 => 0x3F800000#32 | 156 => 0x00000000#32 | 157 => 0x00000000#32 | 158 => 0x00000000#32 | 159 => 0x00000000#32
  | 160 => 0x00000000#32 | 161 => 0x00000000#32 | 162 => 0xBF800000#32 | 163 => 0x00000000#32 | 164 => 0x00000000#32 | 165 => 0x3F800000#32 | 166 => 0x00000000#32 | 167 => 0xBF800000#32
  | 168 => 0x00000000#32 | 169 => 0x00000000#32 | 170 => 0x3F800000#32 | 171 => 0x00000000#32 | 172 => 0x00000000#32 | 173 => 0x00000000#32 | 174 => 0x00000000#32 | 175 => 0x00000000#32
  | 176 => 0x00000000#32 | 177 => 0x3F800000#32 | 178 => 0x00000000#32 | 179 => 0x00000000#32 | 180 => 0x3F800000#32 | 181 => 0x00000000#32 | 182 => 0x3F800000#32 | 183 => 0x00000000#32
  | 184 => 0x00000000#32 | 185 => 0x00000000#32 | 186 => 0xBF800000#32 | 187 => 0x00000000#32 | 188 => 0x00000000#32 | 189 => 0x00000000#32 | 190 => 0x00000000#32 | 191 => 0x00000000#32
  | 192 => 0x00000000#32 | 193 => 0xBF800000#32 | 194 => 0x00000000#32 | 195 => 0x3F800000#32 | 196 => 0x00000000#32 | 197 => 0x3F800000#32 | 198 => 0x00000000#32 | 199 => 0x00000000#32
  | 200 => 0x00000000#32 | 201 => 0xBF800000#32 | 202 => 0x00000000#32 | 203 => 0x00000000#32 | 204 => 0x00000000#32 | 205 => 0x00000000#32 | 206 => 0x00000000#32 | 207 => 0x00000000#32
  | 208 => 0x3F800000#32 | 209 => 0x00000000#32 | 210 => 0x3F800000#32 | 211 => 0x00000000#32 | 212 => 0x3F800000#32 | 213 => 0x00000000#32 | 214 => 0x00000000#32 | 215 => 0x00000000#32
  | 216 => 0x3F800000#32 | 217 => 0x00000000#32 | 218 => 0x00000000#32 | 219 => 0x00000000#32 | 220 => 0x00000000#32 | 221 => 0x00000000#32 | 222 => 0x00000000#32 | 223 => 0x00000000#32
  | 224 => 0xBF800000#32 | 225 => 0x3F800000#32 | 226 => 0x00000000#32 | 227 => 0x3F800000#32 | 228 => 0x00000000#32 | 229 => 0x00000000#32 | 230 => 0x00000000#32 | 231 => 0x3F800000#32
  | 232 => 0x00000000#32 | 233 => 0x00000000#32 | 234 => 0x00000000#32 | 235 => 0x00000000#32 | 236 => 0x00000000#32 | 237 => 0x00000000#32 | 238 => 0x00000000#32 | 239 => 0x3F800000#32
  | _ => 0#32

def fn_part1 {F : FTy → Type} [FloatOps F] (main_arg3 : FVec F S960x256 .f32) (main_arg4 : FVec F S1024x960 .f32) (main_cst : FVec F S15x4 .f32) (main_cst_0 : FVec F S16x15 .f32) (main_v2 : IVec S512x64x16 1) (main_v16 : IVec S8192x960 1) (main_v19 : IVec S64x15x64x4 1) : IVec S64x15x64x4 1 × IVec S64x16x64x15 1 × IVec S512x64x16 1 × IVec S8192x960 1 :=
  let main_v20 : FVec F S64x15x64x4 .f32 := broadcastInDim S64x15x64x4 ![1, 3] bcast_S15x4_S64x15x64x4_1_3 main_cst
  let main_cst_3 : FVec F S_ .f32 := constant S_ .f32 0x00000000#32
  let main_v21 : FVec F S64x15x64x4 .f32 := broadcastInDim S64x15x64x4 ![] bcast_S_S64x15x64x4 main_cst_3
  let main_v22 : FVec F S64x15x64x4 .f32 := select main_v19 main_v20 main_v21
  let main_v23 : FVec F S64x15x64x4 .f32 := shapeCast S64x15x64x4 main_arg3 shapeCasts_S960x256_S64x15x64x4
  let main_v24 : IVec S64x15x64x4 1 := cmpf .oeq main_v23 main_v22
  let main_v25 : IVec S64x16x64x15 32 := iotaInDim S64x16x64x15 32 0
  let main_v26 : IVec S64x16x64x15 32 := iotaInDim S64x16x64x15 32 2
  let main_v27 : IVec S64x16x64x15 1 := cmpi .eq main_v25 main_v26
  let main_v28 : FVec F S64x16x64x15 .f32 := broadcastInDim S64x16x64x15 ![1, 3] bcast_S16x15_S64x16x64x15_1_3 main_cst_0
  let main_cst_4 : FVec F S_ .f32 := constant S_ .f32 0x00000000#32
  let main_v29 : FVec F S64x16x64x15 .f32 := broadcastInDim S64x16x64x15 ![] bcast_S_S64x16x64x15 main_cst_4
  let main_v30 : FVec F S64x16x64x15 .f32 := select main_v27 main_v28 main_v29
  let main_v31 : FVec F S64x16x64x15 .f32 := shapeCast S64x16x64x15 main_arg4 shapeCasts_S1024x960_S64x16x64x15
  let main_v32 : IVec S64x16x64x15 1 := cmpf .oeq main_v31 main_v30
  (main_v24, main_v32, main_v2, main_v16)

def fn {F : FTy → Type} [FloatOps F] (main_arg0 : FVec F S8192x512 .f32) (main_arg1 : FVec F S960 .f32) (main_arg2 : FVec F S512x64x16 .f32) (main_arg3 : FVec F S960x256 .f32) (main_arg4 : FVec F S1024x960 .f32) (main_arg5 : FVec F S64x8x4 .f32) : IVec S64x15x64x4 1 × IVec S64x16x64x15 1 × IVec S512x64x16 1 × IVec S8192x960 1 :=
  let main_cst : FVec F S15x4 .f32 := fun i => FloatOps.ofBits .f32 (lit0 (S15x4.rowMajor i))
  let main_cst_0 : FVec F S16x15 .f32 := fun i => FloatOps.ofBits .f32 (lit1 (S16x15.rowMajor i))
  let main_v0 : FVec F S512x64x16 .f32 := Host.absf main_arg2
  let main_cst_1 : FVec F S_ .f32 := constant S_ .f32 0x7F800000#32
  let main_v1 : FVec F S512x64x16 .f32 := broadcastInDim S512x64x16 ![] bcast_S_S512x64x16 main_cst_1
  let main_v2 : IVec S512x64x16 1 := cmpf .olt main_v0 main_v1
  let main_v3 : FVec F S512x8192 .f32 := (transpose S512x8192 [1, 0] · transposes_S8192x512_S512x8192_1_0) main_arg0
  let main_v4 : FVec F S64x8x8192 .f32 := shapeCast S64x8x8192 main_v3 shapeCasts_S512x8192_S64x8x8192
  let main_v5 : FVec F S64x8192x8 .f32 := (transpose S64x8192x8 [0, 2, 1] · transposes_S64x8x8192_S64x8192x8_0_2_1) main_v4
  let main_v6 : FVec F S64x8192x4 .f32 := (fun l r => Host.dotGeneral dot_S64x8192x8_S64x8x4_S64x8192x4_2_1_1_2_0_0 none l r) main_v5 main_arg5
  let main_v7 : FVec F S64x4x8192 .f32 := (transpose S64x4x8192 [0, 2, 1] · transposes_S64x8192x4_S64x4x8192_0_2_1) main_v6
  let main_v8 : FVec F S256x8192 .f32 := shapeCast S256x8192 main_v7 shapeCasts_S64x4x8192_S256x8192
  let main_v9 : FVec F S8192x256 .f32 := (transpose S8192x256 [1, 0] · transposes_S256x8192_S8192x256_1_0) main_v8
  let main_v10 : FVec F S256x960 .f32 := (transpose S256x960 [1, 0] · transposes_S960x256_S256x960_1_0) main_arg3
  let main_v11 : FVec F S8192x960 .f32 := (fun l r => Host.dotGeneral dot_S8192x256_S256x960_S8192x960_1_0_0_1_n_n none l r) main_v9 main_v10
  let main_v12 : FVec F S1x960 .f32 := broadcastInDim S1x960 ![1] bcast_S960_S1x960_1 main_arg1
  let main_v13 : FVec F S8192x960 .f32 := broadcastInDim S8192x960 ![0, 1] bcast_S1x960_S8192x960_0_1 main_v12
  let main_v14 : FVec F S8192x960 .f32 := subf main_v11 main_v13
  let main_cst_2 : FVec F S_ .f32 := constant S_ .f32 0x00000000#32
  let main_v15 : FVec F S8192x960 .f32 := broadcastInDim S8192x960 ![] bcast_S_S8192x960 main_cst_2
  let main_v16 : IVec S8192x960 1 := cmpf .une main_v14 main_v15
  let main_v17 : IVec S64x15x64x4 32 := iotaInDim S64x15x64x4 32 0
  let main_v18 : IVec S64x15x64x4 32 := iotaInDim S64x15x64x4 32 2
  let main_v19 : IVec S64x15x64x4 1 := cmpi .eq main_v17 main_v18
  fn_part1 (F := F) main_arg3 main_arg4 main_cst main_cst_0 main_v2 main_v16 main_v19
-- ==== Kernel.lean ====
abbrev S8192x512 : Shape := ⟨2, ![8192, 512]⟩
abbrev S960 : Shape := ⟨1, ![960]⟩
abbrev S512x64x16 : Shape := ⟨3, ![512, 64, 16]⟩
abbrev S960x256 : Shape := ⟨2, ![960, 256]⟩
abbrev S1024x960 : Shape := ⟨2, ![1024, 960]⟩
abbrev S64x8x4 : Shape := ⟨3, ![64, 8, 4]⟩
abbrev S16x16 : Shape := ⟨2, ![16, 16]⟩
abbrev S64x64 : Shape := ⟨2, ![64, 64]⟩
abbrev S_ : Shape := ⟨0, ![]⟩
abbrev S64x8x4x1 : Shape := ⟨4, ![64, 8, 4, 1]⟩
abbrev S64x1x1x64 : Shape := ⟨4, ![64, 1, 1, 64]⟩
abbrev S64x8x4x64 : Shape := ⟨4, ![64, 8, 4, 64]⟩
abbrev S512x4x64 : Shape := ⟨3, ![512, 4, 64]⟩
abbrev S512x4x1x64 : Shape := ⟨4, ![512, 4, 1, 64]⟩
abbrev S512x4x2x64 : Shape := ⟨4, ![512, 4, 2, 64]⟩
abbrev S512x512 : Shape := ⟨2, ![512, 512]⟩
abbrev S64x15 : Shape := ⟨2, ![64, 15]⟩
abbrev S15x64 : Shape := ⟨2, ![15, 64]⟩
abbrev S15x128 : Shape := ⟨2, ![15, 128]⟩
abbrev S16x128 : Shape := ⟨2, ![16, 128]⟩
abbrev S16x512x64 : Shape := ⟨3, ![16, 512, 64]⟩
abbrev S16x64x512 : Shape := ⟨3, ![16, 64, 512]⟩
abbrev S1024x512 : Shape := ⟨2, ![1024, 512]⟩
abbrev S2048x512 : Shape := ⟨2, ![2048, 512]⟩
abbrev S256x512 : Shape := ⟨2, ![256, 512]⟩
abbrev S256x128 : Shape := ⟨2, ![256, 128]⟩
abbrev S1x128 : Shape := ⟨2, ![1, 128]⟩
abbrev S128 : Shape := ⟨1, ![128]⟩
abbrev S256x1024 : Shape := ⟨2, ![256, 1024]⟩

abbrev nBuf : Space → Nat
  | .hbm => 36
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S960, .f32⟩
  | .hbm, ⟨2, _⟩ => ⟨S512x64x16, .f32⟩
  | .hbm, ⟨3, _⟩ => ⟨S960x256, .f32⟩
  | .hbm, ⟨4, _⟩ => ⟨S1024x960, .f32⟩
  | .hbm, ⟨5, _⟩ => ⟨S64x8x4, .f32⟩
  | .hbm, ⟨6, _⟩ => ⟨S16x16, .f32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i1⟩
  | .hbm, ⟨13, _⟩ => ⟨S64x64, .f32⟩
  | .hbm, ⟨14, _⟩ => ⟨S64x8x4x1, .f32⟩
  | .hbm, ⟨15, _⟩ => ⟨S64x1x1x64, .f32⟩
  | .hbm, ⟨16, _⟩ => ⟨S64x8x4x64, .f32⟩
  | .hbm, ⟨17, _⟩ => ⟨S64x8x4x64, .f32⟩
  | .hbm, ⟨18, _⟩ => ⟨S64x8x4x64, .f32⟩
  | .hbm, ⟨19, _⟩ => ⟨S512x4x64, .f32⟩
  | .hbm, ⟨20, _⟩ => ⟨S512x4x1x64, .f32⟩
  | .hbm, ⟨21, _⟩ => ⟨S512x4x1x64, .f32⟩
  | .hbm, ⟨22, _⟩ => ⟨S512x4x2x64, .f32⟩
  | .hbm, ⟨23, _⟩ => ⟨S512x512, .f32⟩
  | .hbm, ⟨24, _⟩ => ⟨S512x512, .bf16⟩
  | .hbm, ⟨25, _⟩ => ⟨S64x15, .f32⟩
  | .hbm, ⟨26, _⟩ => ⟨S15x64, .f32⟩
  | .hbm, ⟨27, _⟩ => ⟨S15x128, .f32⟩
  | .hbm, ⟨28, _⟩ => ⟨S_, .i32⟩
  | .hbm, ⟨29, _⟩ => ⟨S_, .f32⟩
  | .hbm, ⟨30, _⟩ => ⟨S16x128, .f32⟩
  | .hbm, ⟨31, _⟩ => ⟨S16x512x64, .f32⟩
  | .hbm, ⟨32, _⟩ => ⟨S16x64x512, .f32⟩
  | .hbm, ⟨33, _⟩ => ⟨S1024x512, .f32⟩
  | .hbm, ⟨34, _⟩ => ⟨S1024x512, .bf16⟩
  | .hbm, ⟨35, _⟩ => ⟨S8192x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S16x128, .f32⟩
  | .local _ .vmem, ⟨4, _⟩ => ⟨S1024x512, .bf16⟩
  | .local _ .vmem, ⟨5, _⟩ => ⟨S2048x512, .f32⟩
  | .local _ .vmem, ⟨6, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x512 : Shape := ⟨2, ![8192, 512]⟩
abbrev S960 : Shape := ⟨1, ![960]⟩
abbrev S512x64x16 : Shape := ⟨3, ![512, 64, 16]⟩
abbrev S960x256 : Shape := ⟨2, ![960, 256]⟩
abbrev S1024x960 : Shape := ⟨2, ![1024, 960]⟩
abbrev S64x8x4 : Shape := ⟨3, ![64, 8, 4]⟩
abbrev S512x8192 : Shape := ⟨2, ![512, 8192]⟩
abbrev S64x8x8192 : Shape := ⟨3, ![64, 8, 8192]⟩
abbrev S64x8192x8 : Shape := ⟨3, ![64, 8192, 8]⟩
abbrev S64x8192x4 : Shape := ⟨3, ![64, 8192, 4]⟩
abbrev S64x4x8192 : Shape := ⟨3, ![64, 4, 8192]⟩
abbrev S256x8192 : Shape := ⟨2, ![256, 8192]⟩
abbrev S8192x256 : Shape := ⟨2, ![8192, 256]⟩
abbrev S256x960 : Shape := ⟨2, ![256, 960]⟩
abbrev S8192x960 : Shape := ⟨2, ![8192, 960]⟩
abbrev S1x960 : Shape := ⟨2, ![1, 960]⟩
abbrev S960x1024 : Shape := ⟨2, ![960, 1024]⟩
abbrev S8192x1024 : Shape := ⟨2, ![8192, 1024]⟩
abbrev S8192x64x16 : Shape := ⟨3, ![8192, 64, 16]⟩
abbrev S_ : Shape := ⟨0, ![]⟩
abbrev S8192x64 : Shape := ⟨2, ![8192, 64]⟩
abbrev S8192x64x1 : Shape := ⟨3, ![8192, 64, 1]⟩
abbrev S1x1x16 : Shape := ⟨3, ![1, 1, 16]⟩

abbrev nBuf : Space → Nat
  | .hbm => 53
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S960, .f32⟩
  | .hbm, ⟨2, _⟩ => ⟨S512x64x16, .f32⟩
  | .hbm, ⟨3, _⟩ => ⟨S960x256, .f32⟩
  | .hbm, ⟨4, _⟩ => ⟨S1024x960, .f32⟩
  | .hbm, ⟨5, _⟩ => ⟨S64x8x4, .f32⟩
  | .hbm, ⟨6, _⟩ => ⟨S512x8192, .f32⟩
  | .hbm, ⟨7, _⟩ => ⟨S64x8x8192, .f32⟩
  | .hbm, ⟨8, _⟩ => ⟨S64x8192x8, .f32⟩
  | .hbm, ⟨9, _⟩ => ⟨S64x8192x4, .f32⟩
  | .hbm, ⟨10, _⟩ => ⟨S64x4x8192, .f32⟩
  | .hbm, ⟨11, _⟩ => ⟨S256x8192, .f32⟩
  | .hbm, ⟨12, _⟩ => ⟨S8192x256, .f32⟩
  | .hbm, ⟨13, _⟩ => ⟨S256x960, .f32⟩
  | .hbm, ⟨14, _⟩ => ⟨S8192x960, .f32⟩
  | .hbm, ⟨15, _⟩ => ⟨S1x960, .f32⟩
  | .hbm, ⟨16, _⟩ => ⟨S8192x960, .f32⟩
  | .hbm, ⟨17, _⟩ => ⟨S8192x960, .f32⟩
  | .hbm, ⟨18, _⟩ => ⟨S8192x960, .f32⟩
  | .hbm, ⟨19, _⟩ => ⟨S8192x960, .f32⟩
  | .hbm, ⟨20, _⟩ => ⟨S8192x960, .f32⟩
  | .hbm, ⟨21, _⟩ => ⟨S8192x960, .f32⟩
  | .hbm, ⟨22, _⟩ => ⟨S960x1024, .f32⟩
  | .hbm, ⟨23, _⟩ => ⟨S8192x1024, .f32⟩
  | .hbm, ⟨24, _⟩ => ⟨S8192x64x16, .f32⟩
  | .hbm, ⟨25, _⟩ => ⟨S_, .f32⟩
  | .hbm, ⟨26, _⟩ => ⟨S8192x64, .f32⟩
  | .hbm, ⟨27, _⟩ => ⟨S_, .f32⟩
  | .hbm, ⟨28, _⟩ => ⟨S8192x64, .f32⟩
  | .hbm, ⟨29, _⟩ => ⟨S8192x64, .f32⟩
  | .hbm, ⟨30, _⟩ => ⟨S8192x64x1, .f32⟩
  | .hbm, ⟨31, _⟩ => ⟨S8192x64x16, .f32⟩
  | .hbm, ⟨32, _⟩ => ⟨S8192x64x16, .f32⟩
  | .hbm, ⟨33, _⟩ => ⟨S8192x64x16, .f32⟩
  | .hbm, ⟨34, _⟩ => ⟨S_, .f32⟩
  | .hbm, ⟨35, _⟩ => ⟨S8192x64, .f32⟩
  | .hbm, ⟨36, _⟩ => ⟨S8192x64x1, .f32⟩
  | .hbm, ⟨37, _⟩ => ⟨S8192x64x16, .f32⟩
  | .hbm, ⟨38, _⟩ => ⟨S8192x64x16, .f32⟩
  | .hbm, ⟨39, _⟩ => ⟨S8192x64x16, .i32⟩
  | .hbm, ⟨40, _⟩ => ⟨S_, .f32⟩
  | .hbm, ⟨41, _⟩ => ⟨S_, .i32⟩
  | .hbm, ⟨42, _⟩ => ⟨S8192x64, .f32⟩
  | .hbm, ⟨43, _⟩ => ⟨S8192x64, .i32⟩
  | .hbm, ⟨44, _⟩ => ⟨S8192x64x1, .i32⟩
  | .hbm, ⟨45, _⟩ => ⟨S1x1x16, .i32⟩
  | .hbm, ⟨46, _⟩ => ⟨S8192x64x16, .i32⟩
  | .hbm, ⟨47, _⟩ => ⟨S8192x64x16, .i32⟩
  | .hbm, ⟨48, _⟩ => ⟨S8192x64x16, .i1⟩
  | .hbm, ⟨49, _⟩ => ⟨S8192x64x16, .f32⟩
  | .hbm, ⟨50, _⟩ => ⟨S8192x64x16, .f32⟩
  | .hbm, ⟨51, _⟩ => ⟨S8192x64x16, .f32⟩
  | .hbm, ⟨52, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_cst : Ref sig .tc := ⟨.hbm, 40, rfl⟩
abbrev main_call0_c : Ref sig .tc := ⟨.hbm, 41, rfl⟩
abbrev main_call0_v1_0 : Ref sig .tc := ⟨.hbm, 42, rfl⟩
abbrev main_v30 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Proof.Chunk.lean ====
/-
  WHAT ONE SUB-BLOCK COMPUTES. The kernel's body treats its block of 2048 rows in eight runs of 256 rows; each run
  encodes its rows against the threshold table and multiplies the code by the prepared table. Here that one
  computation is written once, as `chunk`, and the block the body leaves is shown to be its eight runs.
-/
module

public import proofs.«01_k».proof.Proof.Gen.KernelIdeal.Frame

@[expose] public section

noncomputable section

namespace Cert.Proof.Chunk

open Cert.KernelIdeal Cert.KernelIdeal.Gen Idealize.ShloMosaic Idealize.SL.Sem

variable {F : FTy → Type} [FloatOps F]

/-- The 256 rows' projections: the rows times the prepared block-diagonal matrix. -/
def proj (w : Vec F S512x512 .bf16) (x : Vec F S256x512 .f32) : FVec F S256x512 .f32 :=
  extf .f32 (truncf .bf16 (matmul dot_S256x512_S512x512_S256x512_1_0_0_1_n_n none (truncf .bf16 x bitsLt_bf16_f32)
    (shapeCast S512x512 w shapeCasts_S512x512_S512x512) (constant S256x512 .f32 0x00000000#32)) bitsLt_bf16_f32) bitsLt_bf16_f32

/-- One row of the threshold table as a row vector. -/
def row (o : Fin 2 → Nat) (h : S16x128.Slices o S1x128) (t : FVec F S16x128 .f32) : FVec F S1x128 .f32 :=
  shapeCast S1x128 (shapeCast S128 (extractStridedSlice S1x128 o t h) shapeCasts_S1x128_S128) shapeCasts_S128_S1x128

/-- One row of the threshold table, repeated on all 256 rows. -/
def rows (o : Fin 2 → Nat) (h : S16x128.Slices o S1x128) (t : FVec F S16x128 .f32) : FVec F S256x128 .f32 :=
  broadcastTo S256x128 (shapeCast S1x128 (row o h t) shapeCasts_S1x128_S1x128) broadcasts_S1x128_S256x128

/-- The first decision: the first projection above the root's threshold. -/
def bit0 (t : FVec F S16x128 .f32) (p : FVec F S256x512 .f32) : IVec S256x128 1 :=
  cmpf .ogt (extractStridedSlice S256x128 ![0, 0] p slices_S256x512_o0_0_S256x128)
    (broadcastTo S256x128 (row ![0, 0] slices_S16x128_o0_0_S1x128 t) broadcasts_S1x128_S256x128)

/-- The second decision, at the node the first one leads to. -/
def bit1 (t : FVec F S16x128 .f32) (p : FVec F S256x512 .f32) : IVec S256x128 1 :=
  cmpf .ogt (extractStridedSlice S256x128 ![0, 128] p slices_S256x512_o0_128_S256x128)
    (select (bit0 t p) (rows ![2, 0] slices_S16x128_o2_0_S1x128 t) (rows ![1, 0] slices_S16x128_o1_0_S1x128 t))

/-- The third decision, at the node the first two lead to. -/
def bit2 (t : FVec F S16x128 .f32) (p : FVec F S256x512 .f32) : IVec S256x128 1 :=
  cmpf .ogt (extractStridedSlice S256x128 ![0, 256] p slices_S256x512_o0_256_S256x128)
    (select (bit0 t p)
      (select (bit1 t p) (rows ![6, 0] slices_S16x128_o6_0_S1x128 t) (rows ![5, 0] slices_S16x128_o5_0_S1x128 t))
      (select (bit1 t p) (rows ![4, 0] slices_S16x128_o4_0_S1x128 t) (rows ![3, 0] slices_S16x128_o3_0_S1x128 t)))

/-- The fourth decision, at the node the first three lead to. -/
def bit3 (t : FVec F S16x128 .f32) (p : FVec F S256x512 .f32) : IVec S256x128 1 :=
  cmpf .ogt (extractStridedSlice S256x128 ![0, 384] p slices_S256x512_o0_384_S256x128)
    (select (bit0 t p)
      (select (bit1 t p)
        (select (bit2 t p) (rows ![14, 0] slices_S16x128_o14_0_S1x128 t) (rows ![13, 0] slices_S16x128_o13_0_S1x128 t))
        (select (bit2 t p) (rows ![12, 0] slices_S16x128_o12_0_S1x128 t) (rows ![11, 0] slices_S16x128_o11_0_S1x128 t)))
      (select (bit1 t p)
        (select (bit2 t p) (rows ![10, 0] slices_S16x128_o10_0_S1x128 t) (rows ![9, 0] slices_S16x128_o9_0_S1x128 t))
        (select (bit2 t p) (rows ![8, 0] slices_S16x128_o8_0_S1x128 t) (rows ![7, 0] slices_S16x128_o7_0_S1x128 t))))

/-- A decision as a sign: one where it holds, minus one where not. -/
def sgn (b : IVec S256x128 1) : FVec F S256x128 .f32 :=
  select b (broadcast S256x128 (Scalar.ofBits .f32 0x3F800000#32)) (broadcast S256x128 (Scalar.ofBits .f32 0xBF800000#32))

/-- The first decision's sign on the upper 64 lanes, one on the lower 64. -/
def sgn0 (b : IVec S256x128 1) : FVec F S256x128 .f32 :=
  sgn (ori (cmpi .slt (iota .tc S256x128 32 [1] iota_S256x128_d1_w32) (broadcast S256x128 64#32)) b)

/-- The code of the rows: the eight products of the last three signs, each times the first factor, side by side. -/
def code (b0 s1 s2 s3 : FVec F S256x128 .f32) : FVec F S256x1024 .bf16 :=
  concatenate S256x1024 1
    [⟨S256x128, truncf .bf16 b0 bitsLt_bf16_f32⟩, ⟨S256x128, truncf .bf16 (mulf s1 b0) bitsLt_bf16_f32⟩,
     ⟨S256x128, truncf .bf16 (mulf s2 b0) bitsLt_bf16_f32⟩, ⟨S256x128, truncf .bf16 (mulf (mulf s1 s2) b0) bitsLt_bf16_f32⟩,
     ⟨S256x128, truncf .bf16 (mulf s3 b0) bitsLt_bf16_f32⟩, ⟨S256x128, truncf .bf16 (mulf (mulf s1 s3) b0) bitsLt_bf16_f32⟩,
     ⟨S256x128, truncf .bf16 (mulf (mulf s2 s3) b0) bitsLt_bf16_f32⟩,
     ⟨S256x128, truncf .bf16 (mulf (mulf (mulf s1 s2) s3) b0) bitsLt_bf16_f32⟩]
    concatenates_S256x128_S256x128_S256x128_S256x128_S256x128_S256x128_S256x128_S256x128_S256x1024_d1

/-- The code of 256 rows, from their projections. -/
def encode (t : FVec F S16x128 .f32) (p : FVec F S256x512 .f32) : FVec F S256x1024 .bf16 :=
  code (sgn0 (bit0 t p)) (sgn (bit1 t p)) (sgn (bit2 t p)) (sgn (bit3 t p))

/-- One sub-block of the body: 256 rows against the matrix `w`, the thresholds `t` and the prepared table `l`. -/
def chunk (w : Vec F S512x512 .bf16) (t : Vec F S16x128 .f32) (l : Vec F S1024x512 .bf16) (x : Vec F S256x512 .f32) :
    FVec F S256x512 .f32 :=
  matmul dot_S256x1024_S1024x512_S256x512_1_0_0_1_n_n none (encode (shapeCast S16x128 t shapeCasts_S16x128_S16x128) (proj w x))
    (shapeCast S1024x512 l shapeCasts_S1024x512_S1024x512) (constant S256x512 .f32 0x00000000#32)

/-- What the body leaves in its output block: the eight sub-blocks, each the one computation of its own 256 rows. -/
theorem out_eq (x0 : Vec F S2048x512 .f32) (x1 : Vec F S512x512 .bf16) (x2 : Vec F S16x128 .f32) (x3 : Vec F S1024x512 .bf16) :
    out0_4 x0 x1 x2 x3 = View.canon
      [⟨r0_9, chunk (View.ld x1 r0_0) (View.ld x2 r0_1) (View.ld x3 r0_10) (View.ld x0 r0_9)⟩,
       ⟨r0_8, chunk (View.ld x1 r0_0) (View.ld x2 r0_1) (View.ld x3 r0_10) (View.ld x0 r0_8)⟩,
       ⟨r0_7, chunk (View.ld x1 r0_0) (View.ld x2 r0_1) (View.ld x3 r0_10) (View.ld x0 r0_7)⟩,
       ⟨r0_6, chunk (View.ld x1 r0_0) (View.ld x2 r0_1) (View.ld x3 r0_10) (View.ld x0 r0_6)⟩,
       ⟨r0_5, chunk (View.ld x1 r0_0) (View.ld x2 r0_1) (View.ld x3 r0_10) (View.ld x0 r0_5)⟩,
       ⟨r0_4, chunk (View.ld x1 r0_0) (View.ld x2 r0_1) (View.ld x3 r0_10) (View.ld x0 r0_4)⟩,
       ⟨r0_3, chunk (View.ld x1 r0_0) (View.ld x2 r0_1) (View.ld x3 r0_10) (View.ld x0 r0_3)⟩,
       ⟨r0_2, chunk (View.ld x1 r0_0) (View.ld x2 r0_1) (View.ld x3 r0_10) (View.ld x0 r0_2)⟩] := by
  unfold_out out0_4
  rfl

end Cert.Proof.Chunk

end
-- ==== Proof.Tree.lean ====
/-
  THE DECISION TREE, IN WHOLE NUMBERS. A tree of fifteen nodes in heap order and sixteen leaves; a decision at each node. The
  leaf a walk from the root ends in; the score the other description of that walk gives each leaf; and the sixteen sign
  patterns whose orthogonality lets a signed sum pick one leaf's entry out.
-/
module

public import Idealize.ShloMosaic.Lib.Pointwise
public import Mathlib.Algebra.BigOperators.Fin

@[expose] public section

namespace Cert.Proof.Tree

/-- A decision as a sign. -/
def sg (b : Bool) : ℤ := if b then 1 else -1

/-- A whole number as an extended real. -/
noncomputable def er (z : ℤ) : EReal := ((z : ℝ) : EReal)

/-- Whole numbers as extended reals: zero. -/
theorem er_zero : er 0 = 0 := by simp [er]
/-- Whole numbers as extended reals: one. -/
theorem er_one : er 1 = 1 := by simp [er]
/-- Whole numbers as extended reals: neg_one. -/
theorem er_neg_one : er (-1) = -1 := by simp [er]
/-- Whole numbers as extended reals: mul. -/
theorem er_mul (a b : ℤ) : er a * er b = er (a * b) := by simp [er, EReal.coe_mul]

/-! ### The walk -/

/-- The first decision of the walk. -/
def w0 (d : Fin 15 → Bool) : Bool := d 0

/-- The second decision of the walk. -/
def w1 (d : Fin 15 → Bool) : Bool := if w0 d then d 2 else d 1

/-- The third decision of the walk. -/
def w2 (d : Fin 15 → Bool) : Bool := if w0 d then (if w1 d then d 6 else d 5) else (if w1 d then d 4 else d 3)

/-- The fourth decision of the walk. -/
def w3 (d : Fin 15 → Bool) : Bool :=
  if w0 d then (if w1 d then (if w2 d then d 14 else d 13) else (if w2 d then d 12 else d 11))
  else (if w1 d then (if w2 d then d 10 else d 9) else (if w2 d then d 8 else d 7))

/-- The leaf with four given turns. -/
def leafOf (a b c e : Bool) : Fin 16 := ⟨8 * a.toNat + 4 * b.toNat + 2 * c.toNat + e.toNat, by
  have := a.toNat_le; have := b.toNat_le; have := c.toNat_le; have := e.toNat_le; omega⟩

/-- The leaf the walk ends in. -/
def leaf (d : Fin 15 → Bool) : Fin 16 := leafOf (w0 d) (w1 d) (w2 d) (w3 d)

/-! ### The path to a leaf -/

/-- The level of a node. -/
def level : Fin 15 → Fin 4 := ![0, 1, 1, 2, 2, 2, 2, 3, 3, 3, 3, 3, 3, 3, 3]

/-- The node at level `l` on the way to leaf `k`. -/
def node (l : Fin 4) (k : Fin 16) : Fin 15 := ⟨2 ^ l.val - 1 + k.val / 2 ^ (4 - l.val), by revert l k; decide⟩

/-- The turn at level `l` on the way to leaf `k`. -/
def turn (l : Fin 4) (k : Fin 16) : Bool := k.val.testBit (3 - l.val)

/-- The sign with which leaf `k` leaves node `i`: zero off its path. -/
def weight (k : Fin 16) (i : Fin 15) : ℤ :=
  if i = node 0 k then sg (turn 0 k) else if i = node 1 k then sg (turn 1 k)
  else if i = node 2 k then sg (turn 2 k) else if i = node 3 k then sg (turn 3 k) else 0

/-- Leaf `k`'s score: the decisions' signs, each times the sign with which the leaf leaves the node. -/
def score (d : Fin 15 → Bool) (k : Fin 16) : ℤ := ∑ i : Fin 15, sg (d i) * weight k i

/-- A score is the sum along the leaf's own path. -/
theorem score_eq (d : Fin 15 → Bool) (k : Fin 16) :
    score d k = sg (d (node 0 k)) * sg (turn 0 k) + sg (d (node 1 k)) * sg (turn 1 k) + sg (d (node 2 k)) * sg (turn 2 k)
      + sg (d (node 3 k)) * sg (turn 3 k) := by
  have h : ∀ k i, weight k i = (if i = node 0 k then sg (turn 0 k) else 0) + (if i = node 1 k then sg (turn 1 k) else 0)
      + (if i = node 2 k then sg (turn 2 k) else 0) + (if i = node 3 k then sg (turn 3 k) else 0) := by decide
  simp only [score, h, mul_add, Finset.sum_add_distrib, mul_ite, mul_zero, Finset.sum_ite_eq', Finset.mem_univ, if_true]

/-- The leaf of four turns turns so. -/
theorem turn_leafOf (a b c e : Bool) : turn 0 (leafOf a b c e) = a ∧ turn 1 (leafOf a b c e) = b
    ∧ turn 2 (leafOf a b c e) = c ∧ turn 3 (leafOf a b c e) = e := by
  revert a b c e; decide

/-- Every leaf is the one of its four turns. -/
theorem leafOf_turn (k : Fin 16) : k = leafOf (turn 0 k) (turn 1 k) (turn 2 k) (turn 3 k) := by revert k; decide

/-- The nodes on the way to the leaf of four turns. -/
theorem node_leafOf (a b c e : Bool) : node 0 (leafOf a b c e) = 0 ∧ node 1 (leafOf a b c e) = (if a then 2 else 1)
    ∧ node 2 (leafOf a b c e) = (if a then (if b then 6 else 5) else (if b then 4 else 3))
    ∧ node 3 (leafOf a b c e) = (if a then (if b then (if c then 14 else 13) else (if c then 12 else 11))
      else (if b then (if c then 10 else 9) else (if c then 8 else 7))) := by
  revert a b c e; decide

/-- The decisions on the way to a leaf agree with its turns exactly when the walk takes those turns. -/
theorem walk_iff (d : Fin 15 → Bool) (a b c e : Bool) :
    (d (node 0 (leafOf a b c e)) = a ∧ d (node 1 (leafOf a b c e)) = b ∧ d (node 2 (leafOf a b c e)) = c
      ∧ d (node 3 (leafOf a b c e)) = e) ↔ (w0 d = a ∧ w1 d = b ∧ w2 d = c ∧ w3 d = e) := by
  obtain ⟨n0, n1, n2, n3⟩ := node_leafOf a b c e
  rw [n0, n1, n2, n3]
  constructor <;> rintro ⟨h0, h1, h2, h3⟩ <;> cases a <;> cases b <;> cases c <;> simp_all [w0, w1, w2, w3]

/-- The walk's leaf has score four. -/
theorem score_leaf (d : Fin 15 → Bool) : score d (leaf d) = 4 := by
  have e : ∀ b, sg b * sg b = 1 := by decide
  obtain ⟨t0, t1, t2, t3⟩ := turn_leafOf (w0 d) (w1 d) (w2 d) (w3 d)
  obtain ⟨n0, n1, n2, n3⟩ := (walk_iff d (w0 d) (w1 d) (w2 d) (w3 d)).2 ⟨rfl, rfl, rfl, rfl⟩
  rw [score_eq, leaf, n0, n1, n2, n3, t0, t1, t2, t3, e, e, e, e]; rfl

/-- Every other leaf's score is at most two. -/
theorem score_other (d : Fin 15 → Bool) (k : Fin 16) (h : k ≠ leaf d) : score d k ≤ 2 := by
  have key : ∀ a b c e a' b' c' e' : Bool, ¬ (a = a' ∧ b = b' ∧ c = c' ∧ e = e') →
      sg a * sg a' + sg b * sg b' + sg c * sg c' + sg e * sg e' ≤ 2 := by decide
  rw [score_eq]
  refine key _ _ _ _ _ _ _ _ fun h' => h ?_
  rw [leafOf_turn k]
  rw [leafOf_turn k] at h'
  obtain ⟨t0, t1, t2, t3⟩ := turn_leafOf (turn 0 k) (turn 1 k) (turn 2 k) (turn 3 k)
  rw [t0, t1, t2, t3] at h'
  obtain ⟨e0, e1, e2, e3⟩ := (walk_iff d _ _ _ _).1 h'
  rw [leaf, e0, e1, e2, e3]

/-! ### The sign patterns -/

/-- Pattern `s` at four turns: the product of the turns' signs over the bits of `s`. -/
def pattern (s : Fin 16) (a b c e : Bool) : ℤ :=
  (if s.val.testBit 0 then sg a else 1) * (if s.val.testBit 1 then sg b else 1)
    * (if s.val.testBit 2 then sg c else 1) * (if s.val.testBit 3 then sg e else 1)

/-- Pattern `s` at a leaf. -/
def chi (s k : Fin 16) : ℤ := pattern s (turn 0 k) (turn 1 k) (turn 2 k) (turn 3 k)

/-- Pattern `s` at the walk's turns is its value at the leaf the walk ends in. -/
theorem pattern_walk (d : Fin 15 → Bool) (s : Fin 16) : pattern s (w0 d) (w1 d) (w2 d) (w3 d) = chi s (leaf d) := by
  obtain ⟨h0, h1, h2, h3⟩ := turn_leafOf (w0 d) (w1 d) (w2 d) (w3 d)
  rw [chi, leaf, h0, h1, h2, h3]

/-- The patterns are orthogonal: summed over all sixteen, two leaves' products give sixteen at the same leaf, else zero. -/
theorem orthogonal : ∀ b k : Fin 16, ∑ s : Fin 16, chi s b * chi s k = if k = b then 16 else 0 := by decide

/-- Sixteen patterned sums of a leaf table, each times the pattern at a leaf, are sixteen times that leaf's entry. -/
theorem pick (v : Fin 16 → ℝ) (b : Fin 16) :
    ∑ s : Fin 16, (chi s b : ℝ) * ∑ k : Fin 16, ((chi s k : ℝ) / 16) * v k = v b := by
  have h : ∀ k : Fin 16, ∑ s : Fin 16, (chi s b : ℝ) * (chi s k : ℝ) = if k = b then 16 else 0 := by
    intro k
    have := congrArg (fun z : ℤ => (z : ℝ)) (orthogonal b k)
    push_cast at this
    exact this
  calc ∑ s : Fin 16, (chi s b : ℝ) * ∑ k : Fin 16, ((chi s k : ℝ) / 16) * v k
      = ∑ k : Fin 16, (∑ s : Fin 16, (chi s b : ℝ) * (chi s k : ℝ)) * (v k / 16) := by
        simp only [Finset.mul_sum, Finset.sum_mul]
        rw [Finset.sum_comm]
        exact Finset.sum_congr rfl fun k _ => Finset.sum_congr rfl fun s _ => by ring
    _ = v b := by
        simp only [h, ite_mul, zero_mul, Finset.sum_ite_eq', Finset.sum_ite_eq, Finset.mem_univ, if_true]
        ring

end Cert.Proof.Tree
-- ==== Proof.ChunkValue.lean ====
/-
  ONE SUB-BLOCK AT AN ENTRY. Over the extended reals a sub-block's entry is its row's code times a column of the prepared
  table, and the code at place `64 s + c` is the sign pattern `s` at the leaf the row's walk through tree `c` ends in.
-/
module

public import proofs.«01_k».proof.Proof.Chunk
public import proofs.«01_k».proof.Proof.Tree
public import Idealize.ShloMosaic.Lib.Pointwise
public import Idealize.ShloMosaic.Lib.WordCmp

@[expose] public section

set_option maxRecDepth 16384

noncomputable section

namespace Cert.Proof.ChunkValue

open Cert.KernelIdeal Cert.KernelIdeal.Gen Idealize.ShloMosaic Cert.Proof.Chunk Cert.Proof.Tree

/-- A row's projection is its product with the matrix's column. -/
theorem proj_apply (w : Vec Ideal S512x512 .bf16) (x : Vec Ideal S256x512 .f32) (r : Fin 256) (q : Fin 512) :
    proj (F := Ideal) w x (ix2 r q) = ∑ j : Fin 512, x (ix2 r j) * w (ix2 j q) := by
  pointwise [proj]

/-- A row's decisions on lane `v`: its projection at the node's level above the node's threshold. -/
def dec (t : FVec Ideal S16x128 .f32) (p : FVec Ideal S256x512 .f32) (r : Fin 256) (v : Fin 128) (i : Fin 15) : Bool :=
  decide (t (ix2 i.castSucc v) < p (ix2 r ⟨(level i).val * 128 + v.val, by omega⟩))

variable (t : FVec Ideal S16x128 .f32) (p : FVec Ideal S256x512 .f32) (r : Fin 256) (v : Fin 128)

/-- The first decision's bit. -/
theorem bit0_apply : bit0 (F := Ideal) t p (ix2 r v) = BitVec.ofBool (w0 (dec t p r v)) := by
  pointwise [bit0, row]
  simp [w0, dec, level]

/-- The second decision's bit. -/
theorem bit1_apply : bit1 (F := Ideal) t p (ix2 r v) = BitVec.ofBool (w1 (dec t p r v)) := by
  pointwise [bit1, rows, row]
  rw [bit0_apply, w1, WordCmp.select_ofBool]
  cases w0 (dec t p r v) <;> simp [dec, level]

/-- The third decision's bit. -/
theorem bit2_apply : bit2 (F := Ideal) t p (ix2 r v) = BitVec.ofBool (w2 (dec t p r v)) := by
  pointwise [bit2, rows, row]
  rw [bit0_apply, bit1_apply, w2, WordCmp.select_ofBool, WordCmp.select_ofBool, WordCmp.select_ofBool]
  cases w0 (dec t p r v) <;> cases w1 (dec t p r v) <;> simp [dec, level] <;> rfl

/-- The fourth decision's bit. -/
theorem bit3_apply : bit3 (F := Ideal) t p (ix2 r v) = BitVec.ofBool (w3 (dec t p r v)) := by
  pointwise [bit3, rows, row]
  rw [bit0_apply, bit1_apply, bit2_apply, w3]
  simp only [WordCmp.select_ofBool]
  cases w0 (dec t p r v) <;> cases w1 (dec t p r v) <;> cases w2 (dec t p r v) <;> simp [dec, level] <;> rfl

/-- The word of minus one. -/
theorem neg_one_word : Ideal.ofBits .f32 0xBF800000#32 = -1 := IdealRules.sign_bit.ideal_negOnePat .f32

/-- A decision's sign. -/
theorem sgn_apply (b : IVec S256x128 1) (β : Bool) (h : b (ix2 r v) = BitVec.ofBool β) :
    sgn (F := Ideal) b (ix2 r v) = er (sg β) := by
  pointwise [sgn]
  rw [h, WordCmp.select_ofBool, neg_one_word]
  cases β
  · exact er_neg_one.symm
  · exact er_one.symm

/-- The first factor: one on the lower lanes, the first decision's sign on the upper ones. -/
theorem sgn0_apply (b : IVec S256x128 1) (β : Bool) (h : b (ix2 r v) = BitVec.ofBool β) :
    sgn0 (F := Ideal) b (ix2 r v) = er (if v.val < 64 then 1 else sg β) := by
  have e : ∀ v : Fin 128, IntOp.cmpi .slt (BitVec.ofNat 32 v.val) 64#32 = BitVec.ofBool (decide (v.val < 64)) := by decide
  rw [sgn0, sgn_apply r v _ (decide (v.val < 64) || β)]
  · by_cases hv : v.val < 64 <;> simp [hv, sg]
  · pointwise
    rw [h, e]
    cases decide (v.val < 64) <;> cases β <;> rfl

/-- The code on lane `v` of its `u`-th part, from the four factors on that lane. -/
theorem code_apply (b0 s1 s2 s3 : FVec Ideal S256x128 .f32) (z0 z1 z2 z3 : ℤ) (h0 : b0 (ix2 r v) = er z0)
    (h1 : s1 (ix2 r v) = er z1) (h2 : s2 (ix2 r v) = er z2) (h3 : s3 (ix2 r v) = er z3) (u : Fin 8) :
    code (F := Ideal) b0 s1 s2 s3 (ix2 r ⟨u.val * 128 + v.val, by omega⟩) =
      er ((if u.val.testBit 0 then z1 else 1) * (if u.val.testBit 1 then z2 else 1) * (if u.val.testBit 2 then z3 else 1) * z0) := by
  pointwise [code]
  have e (w : Nat) (hw : w < 128) (hv : w = v.val) : (⟨w, hw⟩ : Fin 128) = v := Fin.ext hv
  obtain ⟨u, hu⟩ := u
  interval_cases u
  all_goals
    simp (disch := omega) only [dif_pos, dif_neg, e, h0, h1, h2, h3, er_mul]
    simp (decide := true) only [if_true, if_false, mul_one, one_mul]

/-- The code of a row whose decisions on tree `c` are `d`: at place `64 s + c` it is the sign pattern `s` at the leaf they
    lead to. -/
theorem encode_apply (s : Fin 16) (c : Fin 64) (d : Fin 15 → Bool) (hl : dec t p r ⟨c.val, by omega⟩ = d)
    (hu : dec t p r ⟨64 + c.val, by omega⟩ = d) :
    encode (F := Ideal) t p (ix2 r ⟨s.val * 64 + c.val, by omega⟩) = er (chi s (leaf d)) := by
  have half : ∀ (u : Fin 8) (v : Fin 128), dec t p r v = d → encode (F := Ideal) t p (ix2 r ⟨u.val * 128 + v.val, by omega⟩) =
      er ((if u.val.testBit 0 then sg (w1 d) else 1) * (if u.val.testBit 1 then sg (w2 d) else 1)
        * (if u.val.testBit 2 then sg (w3 d) else 1) * (if v.val < 64 then 1 else sg (w0 d))) := by
    rintro u v rfl
    exact code_apply r v _ _ _ _ _ _ _ _ (sgn0_apply r v _ _ (bit0_apply t p r v)) (sgn_apply r v _ _ (bit1_apply t p r v))
      (sgn_apply r v _ _ (bit2_apply t p r v)) (sgn_apply r v _ _ (bit3_apply t p r v)) u
  have even : ∀ (u : Fin 8) (a b c e : Bool), (if u.val.testBit 0 then sg b else 1) * (if u.val.testBit 1 then sg c else 1)
      * (if u.val.testBit 2 then sg e else 1) * 1 = pattern ⟨2 * u.val, by omega⟩ a b c e := by decide
  have odd : ∀ (u : Fin 8) (a b c e : Bool), (if u.val.testBit 0 then sg b else 1) * (if u.val.testBit 1 then sg c else 1)
      * (if u.val.testBit 2 then sg e else 1) * sg a = pattern ⟨2 * u.val + 1, by omega⟩ a b c e := by decide
  rw [← pattern_walk]
  obtain ⟨s, hs⟩ := s
  rcases Nat.even_or_odd' s with ⟨u, rfl | rfl⟩
  · have h := half ⟨u, by omega⟩ ⟨c.val, by omega⟩ hl
    rw [if_pos c.isLt, even ⟨u, by omega⟩ (w0 d)] at h
    rw [← h]
    congr 2
    ext
    simp only [Fin.val_mk]
    omega
  · have h := half ⟨u, by omega⟩ ⟨64 + c.val, by omega⟩ hu
    rw [if_neg (show ¬ 64 + c.val < 64 by omega), odd ⟨u, by omega⟩ (w0 d)] at h
    rw [← h]
    congr 2
    ext
    simp only [Fin.val_mk]
    omega

/-- A sub-block's entry: the row's code times the table's column. -/
theorem chunk_apply (w : Vec Ideal S512x512 .bf16) (t : Vec Ideal S16x128 .f32) (l : Vec Ideal S1024x512 .bf16)
    (x : Vec Ideal S256x512 .f32) (r : Fin 256) (m : Fin 512) :
    chunk (F := Ideal) w t l x (ix2 r m) = ∑ q : Fin 1024, encode t (proj w x) (ix2 r q) * l (ix2 q m) := by
  pointwise [chunk]

end Cert.Proof.ChunkValue

end
-- ==== Proof.Words.lean ====
/-
  WORDS: what a few constants denote over the extended reals, and a comparison of two small counts as words.
-/
module

public import Idealize.ShloMosaic.Lib.Pointwise
public import Idealize.ShloMosaic.Lib.WordCmp

@[expose] public section

noncomputable section

namespace Cert.Proof.Words

open Idealize.ShloMosaic

/-- The word of minus one. -/
theorem neg_one : Ideal.ofBits .f32 0xBF800000#32 = -1 := IdealRules.sign_bit.ideal_negOnePat .f32

/-- The word of one sixteenth. -/
theorem sixteenth : Ideal.ofBits .f32 0x3D800000#32 = ((1 / 16 : ℝ) : EReal) := by
  simp [Ideal.ofBits, Ideal.ieee, -EReal.coe_mul]; norm_num

/-- The word of minus one sixteenth. -/
theorem neg_sixteenth : Ideal.ofBits .f32 0xBD800000#32 = ((-1 / 16 : ℝ) : EReal) := by
  simp [Ideal.ofBits, Ideal.ieee, -EReal.coe_mul, -EReal.coe_neg]; norm_num

/-- The word of minus infinity. -/
theorem neg_inf : Ideal.ofBits .f32 0xFF800000#32 = ⊥ := by
  simp [Ideal.ofBits, Ideal.ieee]

/-- The word of infinity. -/
theorem inf : Ideal.ofBits .f32 0x7F800000#32 = ⊤ := by
  simp [Ideal.ofBits, Ideal.ieee]

/-- Two counts below 2³² compare equal as words exactly when they are equal. -/
theorem eq_counts (a b : Nat) (ha : a < 2 ^ 32) (hb : b < 2 ^ 32) :
    IntOp.cmpi .eq (BitVec.ofNat 32 a) (BitVec.ofNat 32 b) = BitVec.ofBool (decide (a = b)) := by
  have : (BitVec.ofNat 32 a = BitVec.ofNat 32 b) ↔ a = b := by
    rw [← BitVec.toNat_inj, BitVec.toNat_ofNat, BitVec.toNat_ofNat, Nat.mod_eq_of_lt ha, Nat.mod_eq_of_lt hb]
  simp only [IntOp.cmpi]
  congr 1
  by_cases h : a = b <;> simp [this, h]

/-- A truth value as a number: one or zero. -/
theorem of_bool (b : Bool) : (FloatOps.uitofp .f32 (BitVec.ofBool b) : Ideal .f32) = if b then (1 : EReal) else 0 := by
  cases b <;> simp [FloatOps.uitofp]

/-- A set truth bit says the truth value holds. -/
theorem ofBool_eq_one (b : Bool) : BitVec.ofBool b = 1#1 ↔ b = true := by cases b <;> decide

/-- A set bit of a comparison for equality says the two are equal. -/
theorem eq_of_oeq (x y : Ideal .f32) (h : FloatOps.cmpf .oeq x y = 1#1) : x = y := by
  simpa [Ideal.cmpf_def, Ideal.cmp, ofBool_eq_one] using h

/-- A set bit of a comparison for difference says the two differ. -/
theorem ne_of_une (x y : Ideal .f32) (h : FloatOps.cmpf .une x y = 1#1) : x ≠ y := by
  simpa [Ideal.cmpf_def, Ideal.cmp, ofBool_eq_one] using h

/-- A set bit of a comparison for order says the first is less. -/
theorem lt_of_olt (x y : Ideal .f32) (h : FloatOps.cmpf .olt x y = 1#1) : (x : EReal) < y := by
  simpa [Ideal.cmpf_def, Ideal.cmp, ofBool_eq_one] using h

/-- An extended real whose size is below infinity is a real. -/
theorem real_of_abs_lt (x : Ideal .f32) (h : FloatOps.cmpf .olt (FloatOps.absf x) (Ideal.ofBits .f32 0x7F800000#32) = 1#1) :
    x = ((EReal.toReal x : ℝ) : EReal) := by
  have h := lt_of_olt _ _ h
  rw [inf, Ideal.absf_def, max_lt_iff] at h
  refine (EReal.coe_toReal h.1.ne fun hb => ?_).symm
  rw [hb] at h
  exact absurd h.2 (by simp)

end Cert.Proof.Words

end
-- ==== Proof.Operands.lean ====
/-
  THE PREPARED OPERANDS AT AN ENTRY: the block-diagonal matrix, the threshold table and the patterned table the kernel's
  launch reads, each from the arguments.
-/
module

public import proofs.«01_k».proof.Proof.Gen.KernelIdeal.Value
public import proofs.«01_k».proof.Proof.Tree
public import proofs.«01_k».proof.Proof.Words
public import Idealize.ShloMosaic.Lib.Pointwise
public import Idealize.ShloMosaic.Lib.WordCmp
public import Idealize.ShloMosaic.Lib.Claim

@[expose] public section

set_option maxRecDepth 16384

noncomputable section

namespace Cert.Proof.Operands

open Cert.KernelIdeal Cert.KernelIdeal.Gen Idealize.ShloMosaic Idealize.ShloMosaic.TcCoe Idealize.SL.Sem Cert.Proof.Tree

variable {F : FTy → Type} [FloatOps F]

/-! ### The operands' terms -/

/-- Each codebook's matrix times the identity, its columns by codebook. -/
def spread (a : FVec F S64x8x4 .f32) : FVec F S64x8x4x64 .f32 :=
  mulf (broadcastInDim S64x8x4x64 ![0, 1, 2, 3] bcast_S64x8x4x1_S64x8x4x64_0_1_2_3
      (broadcastInDim S64x8x4x1 ![0, 1, 2] bcast_S64x8x4_S64x8x4x1_0_1_2 a))
    (broadcastInDim S64x8x4x64 ![0, 1, 2, 3] bcast_S64x1x1x64_S64x8x4x64_0_1_2_3
      (broadcastInDim S64x1x1x64 ![0, 3] bcast_S64x64_S64x1x1x64_0_3
        (uitofp .f32 (cmpi .eq (addi (iotaInDim S64x64 32 0) (broadcastInDim S64x64 ![] bcast_S_S64x64 (constantI S_ 32 0#32)))
          (iotaInDim S64x64 32 1)))))

/-- The block-diagonal matrix, every column twice. -/
def matrix (a : FVec F S64x8x4 .f32) : FVec F S512x512 .bf16 :=
  truncf .bf16 (shapeCast S512x512 (concatenate S512x4x2x64 2
    [⟨S512x4x1x64, broadcastInDim S512x4x1x64 ![0, 1, 3] bcast_S512x4x64_S512x4x1x64_0_1_3
        (shapeCast S512x4x64 (spread a) shapeCasts_S64x8x4x64_S512x4x64)⟩,
     ⟨S512x4x1x64, broadcastInDim S512x4x1x64 ![0, 1, 3] bcast_S512x4x64_S512x4x1x64_0_1_3
        (shapeCast S512x4x64 (spread a) shapeCasts_S64x8x4x64_S512x4x64)⟩]
    concatenates_S512x4x1x64_S512x4x1x64_S512x4x2x64_d2) shapeCasts_S512x4x2x64_S512x512) bitsLt_bf16_f32

/-- The thresholds by node, every column twice, with a sixteenth row of zeros. -/
def levels (t : FVec F S960 .f32) : FVec F S16x128 .f32 :=
  pad S16x128 ![0, 0] ![1, 0] ![0, 0] (concatenate S15x128 1
    [⟨S15x64, transpose S15x64 [1, 0] (shapeCast S64x15 t shapeCasts_S960_S64x15) transposes_S64x15_S15x64_1_0⟩,
     ⟨S15x64, transpose S15x64 [1, 0] (shapeCast S64x15 t shapeCasts_S960_S64x15) transposes_S64x15_S15x64_1_0⟩]
    concatenates_S15x64_S15x64_S15x128_d1) (sitofp .f32 (constantI S_ 32 0#32)) pads_S15x128_S16x128_010_000 h_S_

/-- The table summed against each of the sixteen sign patterns over sixteen. -/
def patterned (l : FVec F S512x64x16 .f32) : FVec F S1024x512 .bf16 :=
  truncf .bf16 (shapeCast S1024x512 (transpose S16x64x512 [0, 2, 1]
    (Host.dotGeneral dot_S16x16_S512x64x16_S16x512x64_1_2_0_01_n_n (some .fp32)
      (fun i => FloatOps.ofBits .f32 (lit0 (S16x16.rowMajor i))) l)
    transposes_S16x512x64_S16x64x512_0_2_1) shapeCasts_S16x64x512_S1024x512) bitsLt_bf16_f32

variable (m : (ℓ : Loc nD τ sig) → Buf (Elt F) ℓ) (c : Dev nD)

/-- The region finds the block-diagonal matrix in its second operand. -/
theorem entry_matrix : Gen.V m c main_v16 = matrix (m ((c : Thread nD τ).loc main_arg5)) := by
  entry_read
  rfl

/-- The region finds the thresholds in its third operand. -/
theorem entry_levels : Gen.V m c main_v20 = levels (m ((c : Thread nD τ).loc main_arg1)) := by
  entry_read
  rfl

/-- The region finds the patterned table in its fourth operand. -/
theorem entry_patterned : Gen.V m c main_v24 = patterned (m ((c : Thread nD τ).loc main_arg2)) := by
  entry_read
  rfl

/-! ### At an entry, over the extended reals -/

/-- The matrix at an entry: a codebook's own entry, once on the lower and once on the upper columns of its level. -/
theorem matrix_apply (a : FVec Ideal S64x8x4 .f32) (j : Fin 512) (q : Fin 512) :
    matrix a (ix2 j q) = if j.val / 8 = q.val % 64 then
      a (ix3 ⟨j.val / 8, by omega⟩ ⟨j.val % 8, by omega⟩ ⟨q.val / 128, by omega⟩) else 0 := by
  have h : ∀ z : Ideal .f32, z * FloatOps.uitofp .f32
      (IntOp.cmpi .eq (IntOp.addi (BitVec.ofNat 32 (j.val / 8)) 0#32) (BitVec.ofNat 32 (q.val % 64))) =
        if j.val / 8 = q.val % 64 then z else (0 : EReal) := fun z => by
    rw [show ∀ w : BitVec 32, IntOp.addi w 0#32 = w from fun w => by simp [IntOp.addi],
      Words.eq_counts _ _ (by omega) (by omega), Words.of_bool]
    by_cases h : j.val / 8 = q.val % 64
    · rw [if_pos h, decide_eq_true h, if_pos rfl]; exact mul_one z
    · rw [if_neg h, decide_eq_false h, if_neg Bool.false_ne_true]; exact mul_zero z
  pointwise [matrix, spread]
  by_cases hq : q.val / 64 % 2 < 1
  · exact (dif_pos hq).trans (h _)
  · exact (dif_neg hq).trans (h _)

/-- The thresholds at a node and a lane. -/
theorem levels_apply (t : FVec Ideal S960 .f32) (i : Fin 15) (v : Fin 128) :
    levels t (ix2 i.castSucc v) = t (ix1 ⟨v.val % 64 * 15 + i.val, by omega⟩) := by
  pointwise [levels]
  rw [dif_pos (by simp)]
  split_ifs with h h
  all_goals first
    | exact absurd ‹_› (by decide)
    | exact congrArg (fun z : Fin 960 => t (ix1 z)) (Fin.ext (by simp; omega))

/-- The words of the patterns over sixteen. -/
theorem pattern_words : ∀ s k : Fin 16, lit0 ⟨s.val * 16 + k.val, by omega⟩ =
    if chi s k = 1 then 0x3D800000#32 else 0xBD800000#32 := by decide

/-- A sign pattern is one or minus one. -/
theorem chi_cases : ∀ s k : Fin 16, chi s k = 1 ∨ chi s k = -1 := by decide

/-- The patterned table at pattern `s` and codebook `c`. -/
theorem patterned_apply (l : FVec Ideal S512x64x16 .f32) (s : Fin 16) (c : Fin 64) (o : Fin 512) :
    patterned l (ix2 ⟨s.val * 64 + c.val, by omega⟩ o) = ∑ k : Fin 16, (((chi s k : ℝ) / 16 : ℝ) : EReal) * l (ix3 o c k) := by
  pointwise [patterned]
  refine Finset.sum_congr rfl fun k _ => ?_
  congr 1
  · have hw : lit0 (S16x16.rowMajor (ix2 s k)) = if chi s k = 1 then 0x3D800000#32 else 0xBD800000#32 := by
      rw [← pattern_words]
      exact congrArg lit0 (Fin.ext (Shape.rowMajor_val_two _))
    rw [hw]
    rcases chi_cases s k with h | h
    · simp only [h, if_true, Words.sixteenth, Int.cast_one]
    · rw [h, if_neg (by decide), Words.neg_sixteenth]
      norm_num

end Cert.Proof.Operands

end
-- ==== Proof.Walk.lean ====
/-
  WHAT IS COMPUTED. Of one row: its projections, its decisions at every tree's nodes, and the sum over the trees of the
  table's entry at the leaf the row's walk ends in. Both programs are shown to compute this.
-/
module

public import proofs.«01_k».proof.Proof.Tree
public import Idealize.ShloMosaic.Lib.Pointwise
public import Idealize.ShloMosaic.Lib.Pipeline.ValueKit

@[expose] public section

noncomputable section

namespace Cert.Proof.Walk

open Idealize.ShloMosaic Cert.Proof.Tree

/-- A row's projection of tree `c` at level `l`: the tree's eight coordinates times its matrix's column. -/
def along (x : Fin 512 → EReal) (a : FVec Ideal ⟨3, ![64, 8, 4]⟩ .f32) (c : Fin 64) (l : Fin 4) : EReal :=
  ∑ j : Fin 8, x ⟨c.val * 8 + j.val, by omega⟩ * a (ix3 c j l)

/-- A row's decisions at the nodes of tree `c`: the node's threshold under the projection its level reads. -/
def decisions (t : FVec Ideal ⟨1, ![960]⟩ .f32) (x : Fin 512 → EReal) (a : FVec Ideal ⟨3, ![64, 8, 4]⟩ .f32) (c : Fin 64)
    (i : Fin 15) : Bool :=
  decide (t (ix1 ⟨c.val * 15 + i.val, by omega⟩) < along x a c (level i))

/-- A row's answer in column `o`: over the trees, the table's entry at the leaf the walk ends in. -/
def answer (t : FVec Ideal ⟨1, ![960]⟩ .f32) (l : FVec Ideal ⟨3, ![512, 64, 16]⟩ .f32) (a : FVec Ideal ⟨3, ![64, 8, 4]⟩ .f32)
    (x : Fin 512 → EReal) (o : Fin 512) : EReal :=
  ∑ c : Fin 64, l (ix3 o c (leaf (decisions t x a c)))

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Over the extended reals too the patterned sums pick a leaf's entry, of a table of reals. -/
theorem pick_coe (v : Fin 16 → ℝ) (b : Fin 16) :
    ∑ s : Fin 16, er (chi s b) * ∑ k : Fin 16, (((chi s k : ℝ) / 16 : ℝ) : EReal) * (v k : EReal) = (v b : EReal) := by
  conv_rhs => rw [← pick v b]
  simp only [coe_sum, EReal.coe_mul, er]

end Cert.Proof.Walk

end
-- ==== Proof.Block.lean ====
/-
  WHAT ONE BLOCK COMPUTES. A sub-block over the prepared operands is the rows' answers, and so is the body's whole block of
  2048 rows; the table is asked to be of reals, where the patterned sums pick out a leaf's entry.
-/
module

public import proofs.«01_k».proof.Proof.ChunkValue
public import proofs.«01_k».proof.Proof.Operands
public import proofs.«01_k».proof.Proof.Walk

@[expose] public section

set_option maxRecDepth 16384

noncomputable section

namespace Cert.Proof.Block

open Cert.KernelIdeal Cert.KernelIdeal.Gen Idealize.ShloMosaic Cert.Proof.Chunk Cert.Proof.ChunkValue Cert.Proof.Operands
  Cert.Proof.Tree Cert.Proof.Walk

/-- A row's product with the block-diagonal matrix is its tree's projection: the other trees' entries are zero. -/
theorem proj_matrix (a : FVec Ideal S64x8x4 .f32) (x : Vec Ideal S256x512 .f32) (r : Fin 256) (l : Fin 4) (v : Fin 128) :
    proj (F := Ideal) (matrix a) x (ix2 r ⟨l.val * 128 + v.val, by omega⟩) =
      along (fun q => x (ix2 r q)) a ⟨v.val % 64, by omega⟩ l := by
  rw [proj_apply, ← Fin.sum_mul_add_fin 64 8]
  refine (Finset.sum_eq_single_of_mem (⟨v.val % 64, by omega⟩ : Fin 64) (Finset.mem_univ _) fun c _ hc => ?_).trans ?_
  · refine Finset.sum_eq_zero fun j _ => ?_
    rw [matrix_apply, if_neg fun h => hc (Fin.ext (by simp only at h ⊢; omega))]
    exact mul_zero _
  · refine Finset.sum_congr rfl fun j _ => ?_
    rw [matrix_apply, if_pos (by simp only; omega)]
    have e0 : (⟨(v.val % 64 * 8 + j.val) / 8, by omega⟩ : Fin 64) = ⟨v.val % 64, by omega⟩ := Fin.ext (by simp only; omega)
    have e1 : (⟨(v.val % 64 * 8 + j.val) % 8, by omega⟩ : Fin 8) = j := Fin.ext (by simp only; omega)
    have e2 : (⟨(l.val * 128 + v.val) / 128, by omega⟩ : Fin 4) = l := Fin.ext (by simp only; omega)
    simp only [e0, e1, e2]

/-- A row's decisions on a lane are those at the lane's tree. -/
theorem dec_operands (t : FVec Ideal S960 .f32) (a : FVec Ideal S64x8x4 .f32) (x : Vec Ideal S256x512 .f32) (r : Fin 256)
    (v : Fin 128) (c : Fin 64) (h : v.val % 64 = c.val) :
    dec (levels t) (proj (F := Ideal) (matrix a) x) r v = decisions t (fun q => x (ix2 r q)) a c := by
  have e : (⟨v.val % 64, by omega⟩ : Fin 64) = c := Fin.ext h
  funext i
  rw [dec, decisions, levels_apply, proj_matrix]
  simp only [e, h]

/-- A sub-block's entry: the row's answer. -/
theorem chunk_eq (t : FVec Ideal S960 .f32) (a : FVec Ideal S64x8x4 .f32) (l : FVec Ideal S512x64x16 .f32)
    (v : S512x64x16.Idx → ℝ) (hv : ∀ i, l i = (v i : EReal)) (x : Vec Ideal S256x512 .f32) (r : Fin 256) (o : Fin 512) :
    chunk (F := Ideal) (matrix a) (levels t) (patterned l) x (ix2 r o) = answer t l a (fun q => x (ix2 r q)) o := by
  rw [chunk_apply, ← Fin.sum_mul_add_fin 16 64, Finset.sum_comm, answer]
  refine Finset.sum_congr rfl fun c _ => ?_
  rw [hv, ← pick_coe fun k => v (ix3 o c k)]
  refine Finset.sum_congr rfl fun s _ => ?_
  rw [encode_apply (levels t) (proj (matrix a) x) r s c _ (dec_operands t a x r _ c (by simp only; omega))
    (dec_operands t a x r _ c (by simp only; omega)), patterned_apply]
  simp only [hv]

/-- The rows' answers as a block. -/
def blockAnswer (t : FVec Ideal S960 .f32) (a : FVec Ideal S64x8x4 .f32) (l : FVec Ideal S512x64x16 .f32)
    (x : Vec Ideal S2048x512 .f32) : Vec Ideal S2048x512 .f32 :=
  fun y => answer t l a (fun q => x (ix2 (y 0) q)) (y 1)

/-- The zero offsets. -/
theorem offsets_zero : (![0, 0] : Fin 2 → Nat) = fun _ => 0 := funext fun i => by fin_cases i <;> rfl

/-- One of the body's stores agrees with the block's answers: the rows it computes are the rows it stores. -/
theorem piece_eq (t : FVec Ideal S960 .f32) (a : FVec Ideal S64x8x4 .f32) (l : FVec Ideal S512x64x16 .f32)
    (v : S512x64x16.Idx → ℝ) (hv : ∀ i, l i = (v i : EReal)) (x : Vec Ideal S2048x512 .f32) (k : Nat)
    (h : ∀ i, (![k, 0] : Fin 2 → Nat) i + S256x512.size i ≤ S2048x512.size i) (j : S256x512.Idx) :
    chunk (F := Ideal) (View.ld (matrix a) r0_0) (View.ld (levels t) r0_1) (View.ld (patterned l) r0_10)
        (View.ld x (Rect.unit (s := S2048x512) ![k, 0] S256x512.size h)) j =
      blockAnswer t a l x ((Rect.unit (s := S2048x512) ![k, 0] S256x512.size h).emb j) := by
  rw [View.ld_unit_zero offsets_zero, View.ld_unit_zero offsets_zero, View.ld_unit_zero offsets_zero]
  have hj : j = ix2 (j 0) (j 1) := by funext i; fin_cases i <;> rfl
  refine (congrArg _ hj).trans ((chunk_eq t a l v hv _ (j 0) (j 1)).trans ?_)
  show answer _ _ _ _ _ = answer _ _ _ _ _
  congr 1
  · funext q
    show x _ = x _
    congr 1
    funext i
    fin_cases i
    · rfl
    · exact Fin.ext (by show 0 + 1 * q.val = q.val; omega)
  · exact Fin.ext (by show (j 1).val = 0 + 1 * (j 1).val; omega)

/-- What the body leaves in its block: each row's answer. -/
theorem out_value (t : FVec Ideal S960 .f32) (a : FVec Ideal S64x8x4 .f32) (l : FVec Ideal S512x64x16 .f32)
    (v : S512x64x16.Idx → ℝ) (hv : ∀ i, l i = (v i : EReal)) (x : Vec Ideal S2048x512 .f32) :
    out0_4 (F := Ideal) x (matrix a) (levels t) (patterned l) = blockAnswer t a l x := by
  funext y
  rw [out_eq]
  refine View.canon_apply_of_pieces (blockAnswer t a l x) _ (fun p hp j => ?_) y (cover0_4 _ _ _ _ _ _ _ _ y)
  simp only [List.mem_cons, List.mem_nil_iff, or_false] at hp
  rcases hp with rfl | rfl | rfl | rfl | rfl | rfl | rfl | rfl <;> exact piece_eq t a l v hv x _ _ j

end Cert.Proof.Block

end
-- ==== Proof.Array.lean ====
/-
  WHAT THE ARRAY HOLDS. After the kernel's run its result array holds, row by row, the answers of the first argument's rows:
  each grid point's block is those of its 2048 rows, and the four blocks tile the array.
-/
module

public import proofs.«01_k».proof.Proof.Block

@[expose] public section

set_option maxRecDepth 16384

noncomputable section

namespace Cert.Proof.Array

open Cert.KernelIdeal Cert.KernelIdeal.Gen Idealize.ShloMosaic Idealize.ShloMosaic.TcCoe Idealize.SL.Sem Cert.Proof.Operands
  Cert.Proof.Walk Cert.Proof.Block

variable (m : (ℓ : Loc nD τ sig) → Buf (Elt Ideal) ℓ)

/-- The index maps: the rows' windows move with the grid's coordinate, the operands' stay. -/
theorem index_facts : ∀ t : Fin grid0.N, win0_0.index t = ![t.val, 0] ∧ win0_1.index t = ![0, 0] ∧ win0_2.index t = ![0, 0]
    ∧ win0_3.index t = ![0, 0] ∧ win0_4.index t = ![t.val, 0] := by decide +kernel

/-- The block-diagonal matrix's window is the whole matrix. -/
theorem block1 (c : Dev nD) (t : Fin cfg0.N) : (iblk m c 1 t : Vec Ideal S512x512 .bf16) = matrix (F := Ideal) (m ((c : Thread nD τ).loc main_arg5)) := by
  rw [← entry_matrix m c]
  funext y
  blk_ext [iblk, (index_facts t).2.1]

/-- The thresholds' window is the whole table of thresholds. -/
theorem block2 (c : Dev nD) (t : Fin cfg0.N) : (iblk m c 2 t : Vec Ideal S16x128 .f32) = levels (F := Ideal) (m ((c : Thread nD τ).loc main_arg1)) := by
  rw [← entry_levels m c]
  funext y
  blk_ext [iblk, (index_facts t).2.2.1]

/-- The patterned table's window is the whole patterned table. -/
theorem block3 (c : Dev nD) (t : Fin cfg0.N) : (iblk m c 3 t : Vec Ideal S1024x512 .bf16) = patterned (F := Ideal) (m ((c : Thread nD τ).loc main_arg2)) := by
  rw [← entry_patterned m c]
  funext y
  blk_ext [iblk, (index_facts t).2.2.2.1]

/-- The result array: every row's answer. -/
def arrayAnswer (x : FVec Ideal S8192x512 .f32) (t : FVec Ideal S960 .f32) (l : FVec Ideal S512x64x16 .f32)
    (a : FVec Ideal S64x8x4 .f32) : FVec Ideal S8192x512 .f32 :=
  fun i => answer t l a (fun q => x (ix2 (i 0) q)) (i 1)

/-- After the run the result array holds the answers of the first argument's rows. -/
theorem final (c : Dev nD) (v : S512x64x16.Idx → ℝ)
    (hv : ∀ i, (m ((c : Thread nD τ).loc main_arg2) : FVec Ideal S512x64x16 .f32) i = (v i : EReal)) :
    (dats m 0 c).arrAt 4 cfg0.N = arrayAnswer (m ((c : Thread nD τ).loc main_arg0)) (m ((c : Thread nD τ).loc main_arg1))
      (m ((c : Thread nD τ).loc main_arg2)) (m ((c : Thread nD τ).loc main_arg5)) := by
  refine (dats m 0 c).arrAt_eq_of_covers 4 _ (by decide +kernel) fun t hf y => ?_
  blk_simp
  rw [after0_4, block1, block2, block3, out_value _ _ _ v hv]
  show answer _ _ _ _ _ = answer _ _ _ _ _
  congr 1
  · funext q
    blk_ext [iblk, (index_facts t).1, (index_facts t).2.2.2.2, V_main_arg0 m c]
  · refine Fin.ext ?_
    blk_simp [(index_facts t).2.2.2.2]

end Cert.Proof.Array

end
-- ==== Proof.RefRun.lean ====
/-
  THE REFERENCE'S RUN. The reference as the list of its host operations, its stages by name, and what its run leaves: the
  result buffer holds the composition of the stages at the arguments, and every argument is as it was.
-/
module

public import proofs.«01_k».proof.Proof.Gen.ReferenceIdeal
public import Idealize.ShloMosaic.Lib.StableHlo.Run

@[expose] public section

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ### The stages -/

/-- The inputs of the trees' four levels: each codebook's eight coordinates times its own matrix. -/
def inputs (x : FVec F S8192x512 .f32) (a : FVec F S64x8x4 .f32) : FVec F S8192x256 .f32 :=
  transpose S8192x256 [1, 0] (shapeCast S256x8192 (transpose S64x4x8192 [0, 2, 1]
    (Host.dotGeneral dot_S64x8192x8_S64x8x4_S64x8192x4_2_1_1_2_0_0 none
      (transpose S64x8192x8 [0, 2, 1] (shapeCast S64x8x8192 (transpose S512x8192 [1, 0] x transposes_S8192x512_S512x8192_1_0)
        shapeCasts_S512x8192_S64x8x8192) transposes_S64x8x8192_S64x8192x8_0_2_1) a)
    transposes_S64x8192x4_S64x4x8192_0_2_1) shapeCasts_S64x4x8192_S256x8192) transposes_S256x8192_S8192x256_1_0

/-- Each tree node's margin: the input its level reads, minus its threshold. -/
def margin (x : FVec F S8192x512 .f32) (t : FVec F S960 .f32) (s : FVec F S960x256 .f32) (a : FVec F S64x8x4 .f32) :
    FVec F S8192x960 .f32 :=
  subf (Host.dotGeneral dot_S8192x256_S256x960_S8192x960_1_0_0_1_n_n none (inputs x a)
      (transpose S256x960 [1, 0] s transposes_S960x256_S256x960_1_0))
    (broadcastInDim S8192x960 ![0, 1] bcast_S1x960_S8192x960_0_1 (broadcastInDim S1x960 ![1] bcast_S960_S1x960_1 t))

/-- The margin's sign, spelt with the hyperbolic tangent taken off and put back. -/
def signs (h : FVec F S8192x960 .f32) : FVec F S8192x960 .f32 :=
  addf (subf (Host.sign h) (Host.tanh h)) (Host.tanh h)

/-- Each leaf's score: the signs on the way to it, summed with the leaf's own. -/
def scores (g : FVec F S8192x960 .f32) (b : FVec F S1024x960 .f32) : FVec F S8192x64x16 .f32 :=
  shapeCast S8192x64x16 (Host.dotGeneral dot_S8192x960_S960x1024_S8192x1024_1_0_0_1_n_n none g
    (transpose S960x1024 [1, 0] b transposes_S1024x960_S960x1024_1_0)) shapeCasts_S8192x1024_S8192x64x16

/-- The exponential of each score under the codebook's largest. -/
def expo (z : FVec F S8192x64x16 .f32) : FVec F S8192x64x16 .f32 :=
  Host.exp (subf z (broadcastInDim S8192x64x16 ![0, 1, 2] bcast_S8192x64x1_S8192x64x16_0_1_2
    (broadcastInDim S8192x64x1 ![0, 1] bcast_S8192x64_S8192x64x1_0_1
      (maximumf (broadcastInDim S8192x64 ![] bcast_S_S8192x64 (constant S_ .f32 0xFF800000#32))
        (Host.reduce FloatOps.maximumf z (constant S_ .f32 0xFF800000#32) reducesTo_S8192x64x16_S8192x64_d2 h_S_)))))

/-- The exponentials as shares of their sum. -/
def share (e : FVec F S8192x64x16 .f32) : FVec F S8192x64x16 .f32 :=
  Host.divf e (broadcastInDim S8192x64x16 ![0, 1, 2] bcast_S8192x64x1_S8192x64x16_0_1_2
    (broadcastInDim S8192x64x1 ![0, 1] bcast_S8192x64_S8192x64x1_0_1
      (Host.reduceAdd e (constant S_ .f32 0x00000000#32) reducesTo_S8192x64x16_S8192x64_d2 h_S_)))

/-- The place of the largest share. -/
def place (p : FVec F S8192x64x16 .f32) : IVec S8192x64 32 := fun j =>
  (Host.argReduce reducer_argmax_f32_i32 p (iotaInDim S8192x64x16 32 2) (constant S_ .f32 0xFF800000#32)
    (constantI S_ 32 0#32) reducesTo_S8192x64x16_S8192x64_d2 h_S_ j).2

/-- One at a place, zero elsewhere. -/
def oneHot (k : IVec S8192x64 32) : FVec F S8192x64x16 .f32 :=
  uitofp .f32 (cmpi .eq
    (broadcastInDim S8192x64x16 ![0, 1, 2] bcast_S8192x64x1_S8192x64x16_0_1_2
      (broadcastInDim S8192x64x1 ![0, 1] bcast_S8192x64_S8192x64x1_0_1 k))
    (broadcastInDim S8192x64x16 ![0, 1, 2] bcast_S1x1x16_S8192x64x16_0_1_2 (iotaInDim S1x1x16 32 2)))

/-- The encoding from the shares: the one at the largest, spelt with the shares taken off and put back. -/
def chosen (p : FVec F S8192x64x16 .f32) : FVec F S8192x64x16 .f32 := addf (subf (oneHot (place p)) p) p

/-- The reference's result at its arguments. -/
def result (x : FVec F S8192x512 .f32) (t : FVec F S960 .f32) (l : FVec F S512x64x16 .f32) (s : FVec F S960x256 .f32)
    (b : FVec F S1024x960 .f32) (a : FVec F S64x8x4 .f32) : FVec F S8192x512 .f32 :=
  Host.dotGeneral dot_S8192x64x16_S512x64x16_S8192x512_12_12_0_0_n_n none
    (chosen (share (expo (scores (signs (margin x t s a)) b)))) l

/-! ### The operations, in order -/

/-- The reference's 47 operations, in order (a called function's operations stand in its call's place). -/
abbrev ops : List (HloOp τ sig (Elt F)) :=
  [ unary main_arg0 main_v0 ((transpose S512x8192 [1, 0] · transposes_S8192x512_S512x8192_1_0) : (⟨S8192x512, .f32⟩ : BufTy).Contents (Elt F) → (⟨S512x8192, .f32⟩ : BufTy).Contents (Elt F)),
    reshape main_v0 main_v1 (rfl : (.f32 : EltTy) = .f32) shapeCasts_S512x8192_S64x8x8192,
    unary main_v1 main_v2 ((transpose S64x8192x8 [0, 2, 1] · transposes_S64x8x8192_S64x8192x8_0_2_1) : (⟨S64x8x8192, .f32⟩ : BufTy).Contents (Elt F) → (⟨S64x8192x8, .f32⟩ : BufTy).Contents (Elt F)),
    binary main_v2 main_arg5 main_v3 ((fun l r => Host.dotGeneral dot_S64x8192x8_S64x8x4_S64x8192x4_2_1_1_2_0_0 none l r) : (⟨S64x8192x8, .f32⟩ : BufTy).Contents (Elt F) → (⟨S64x8x4, .f32⟩ : BufTy).Contents (Elt F) → (⟨S64x8192x4, .f32⟩ : BufTy).Contents (Elt F)),
    unary main_v3 main_v4 ((transpose S64x4x8192 [0, 2, 1] · transposes_S64x8192x4_S64x4x8192_0_2_1) : (⟨S64x8192x4, .f32⟩ : BufTy).Contents (Elt F) → (⟨S64x4x8192, .f32⟩ : BufTy).Contents (Elt F)),
    reshape main_v4 main_v5 (rfl : (.f32 : EltTy) = .f32) shapeCasts_S64x4x8192_S256x8192,
    unary main_v5 main_v6 ((transpose S8192x256 [1, 0] · transposes_S256x8192_S8192x256_1_0) : (⟨S256x8192, .f32⟩ : BufTy).Contents (Elt F) → (⟨S8192x256, .f32⟩ : BufTy).Contents (Elt F)),
    unary main_arg3 main_v7 ((transpose S256x960 [1, 0] · transposes_S960x256_S256x960_1_0) : (⟨S960x256, .f32⟩ : BufTy).Contents (Elt F) → (⟨S256x960, .f32⟩ : BufTy).Contents (Elt F)),
    binary main_v6 main_v7 main_v8 ((fun l r => Host.dotGeneral dot_S8192x256_S256x960_S8192x960_1_0_0_1_n_n none l r) : (⟨S8192x256, .f32⟩ : BufTy).Contents (Elt F) → (⟨S256x960, .f32⟩ : BufTy).Contents (Elt F) → (⟨S8192x960, .f32⟩ : BufTy).Contents (Elt F)),
    unary main_arg1 main_v9 (broadcastInDim S1x960 ![1] bcast_S960_S1x960_1 : (⟨S960, .f32⟩ : BufTy).Contents (Elt F) → (⟨S1x960, .f32⟩ : BufTy).Contents (Elt F)),
    unary main_v9 main_v10 (broadcastInDim S8192x960 ![0, 1] bcast_S1x960_S8192x960_0_1 : (⟨S1x960, .f32⟩ : BufTy).Contents (Elt F) → (⟨S8192x960, .f32⟩ : BufTy).Contents (Elt F)),
    binary main_v8 main_v10 main_v11 (subf : (⟨S8192x960, .f32⟩ : BufTy).Contents (Elt F) → (⟨S8192x960, .f32⟩ : BufTy).Contents (Elt F) → (⟨S8192x960, .f32⟩ : BufTy).Contents (Elt F)),
    unary main_v11 main_v12 (Host.tanh : (⟨S8192x960, .f32⟩ : BufTy).Contents (Elt F) → (⟨S8192x960, .f32⟩ : BufTy).Contents (Elt F)),
    unary main_v11 main_v13 (Host.sign : (⟨S8192x960, .f32⟩ : BufTy).Contents (Elt F) → (⟨S8192x960, .f32⟩ : BufTy).Contents (Elt F)),
    binary main_v13 main_v12 main_v14 (subf : (⟨S8192x960, .f32⟩ : BufTy).Contents (Elt F) → (⟨S8192x960, .f32⟩ : BufTy).Contents (Elt F) → (⟨S8192x960, .f32⟩ : BufTy).Contents (Elt F)),
    binary main_v14 main_v12 main_v15 (addf : (⟨S8192x960, .f32⟩ : BufTy).Contents (Elt F) → (⟨S8192x960, .f32⟩ : BufTy).Contents (Elt F) → (⟨S8192x960, .f32⟩ : BufTy).Contents (Elt F)),
    unary main_arg4 main_v16 ((transpose S960x1024 [1, 0] · transposes_S1024x960_S960x1024_1_0) : (⟨S1024x960, .f32⟩ : BufTy).Contents (Elt F) → (⟨S960x1024, .f32⟩ : BufTy).Contents (Elt F)),
    binary main_v15 main_v16 main_v17 ((fun l r => Host.dotGeneral dot_S8192x960_S960x1024_S8192x1024_1_0_0_1_n_n none l r) : (⟨S8192x960, .f32⟩ : BufTy).Contents (Elt F) → (⟨S960x1024, .f32⟩ : BufTy).Contents (Elt F) → (⟨S8192x1024, .f32⟩ : BufTy).Contents (Elt F)),
    reshape main_v17 main_v18 (rfl : (.f32 : EltTy) = .f32) shapeCasts_S8192x1024_S8192x64x16,
    nullary main_cst (constant S_ .f32 0xFF800000#32),
    binary main_v18 main_cst main_v19 ((fun x v => Host.reduce FloatOps.maximumf x v reducesTo_S8192x64x16_S8192x64_d2 h_S_) : (⟨S8192x64x16, .f32⟩ : BufTy).Contents (Elt F) → (⟨S_, .f32⟩ : BufTy).Contents (Elt F) → (⟨S8192x64, .f32⟩ : BufTy).Contents (Elt F)),
    nullary main_cst_0 (constant S_ .f32 0xFF800000#32),
    unary main_cst_0 main_v20 (broadcastInDim S8192x64 ![] bcast_S_S8192x64 : (⟨S_, .f32⟩ : BufTy).Contents (Elt F) → (⟨S8192x64, .f32⟩ : BufTy).Contents (Elt F)),
    binary main_v20 main_v19 main_v21 (maximumf : (⟨S8192x64, .f32⟩ : BufTy).Contents (Elt F) → (⟨S8192x64, .f32⟩ : BufTy).Contents (Elt F) → (⟨S8192x64, .f32⟩ : BufTy).Contents (Elt F)),
    unary main_v21 main_v22 (broadcastInDim S8192x64x1 ![0, 1] bcast_S8192x64_S8192x64x1_0_1 : (⟨S8192x64, .f32⟩ : BufTy).Contents (Elt F) → (⟨S8192x64x1, .f32⟩ : BufTy).Contents (Elt F)),
    unary main_v22 main_v23 (broadcastInDim S8192x64x16 ![0, 1, 2] bcast_S8192x64x1_S8192x64x16_0_1_2 : (⟨S8192x64x1, .f32⟩ : BufTy).Contents (Elt F) → (⟨S8192x64x16, .f32⟩ : BufTy).Contents (Elt F)),
    binary main_v18 main_v23 main_v24 (subf : (⟨S8192x64x16, .f32⟩ : BufTy).Contents (Elt F) → (⟨S8192x64x16, .f32⟩ : BufTy).Contents (Elt F) → (⟨S8192x64x16, .f32⟩ : BufTy).Contents (Elt F)),
    unary main_v24 main_v25 (Host.exp : (⟨S8192x64x16, .f32⟩ : BufTy).Contents (Elt F) → (⟨S8192x64x16, .f32⟩ : BufTy).Contents (Elt F)),
    nullary main_cst_1 (constant S_ .f32 0x00000000#32),
    binary main_v25 main_cst_1 main_v26 ((fun x v => Host.reduceAdd x v reducesTo_S8192x64x16_S8192x64_d2 h_S_) : (⟨S8192x64x16, .f32⟩ : BufTy).Contents (Elt F) → (⟨S_, .f32⟩ : BufTy).Contents (Elt F) → (⟨S8192x64, .f32⟩ : BufTy).Contents (Elt F)),
    unary main_v26 main_v27 (broadcastInDim S8192x64x1 ![0, 1] bcast_S8192x64_S8192x64x1_0_1 : (⟨S8192x64, .f32⟩ : BufTy).Contents (Elt F) → (⟨S8192x64x1, .f32⟩ : BufTy).Contents (Elt F)),
    unary main_v27 main_v28 (broadcastInDim S8192x64x16 ![0, 1, 2] bcast_S8192x64x1_S8192x64x16_0_1_2 : (⟨S8192x64x1, .f32⟩ : BufTy).Contents (Elt F) → (⟨S8192x64x16, .f32⟩ : BufTy).Contents (Elt F)),
    binary main_v25 main_v28 main_v29 (Host.divf : (⟨S8192x64x16, .f32⟩ : BufTy).Contents (Elt F) → (⟨S8192x64x16, .f32⟩ : BufTy).Contents (Elt F) → (⟨S8192x64x16, .f32⟩ : BufTy).Contents (Elt F)),
    TRef.nullary (TRef.of (T := ⟨S8192x64x16, .i32⟩) main_call0_v0) (iotaInDim S8192x64x16 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8192x64x16, .f32⟩) main_v29) (TRef.of (T := ⟨S8192x64x16, .i32⟩) main_call0_v0) (TRef.of (T := ⟨S_, .f32⟩) main_call0_cst) (TRef.of (T := ⟨S_, .i32⟩) main_call0_c) (TRef.of (T := ⟨S8192x64, .f32⟩) main_call0_v1_0) (fun x y u v j => (Host.argReduce reducer_argmax_f32_i32 x y u v reducesTo_S8192x64x16_S8192x64_d2 h_S_ j).1),
    TRef.quaternary (TRef.of (T := ⟨S8192x64x16, .f32⟩) main_v29) (TRef.of (T := ⟨S8192x64x16, .i32⟩) main_call0_v0) (TRef.of (T := ⟨S_, .f32⟩) main_call0_cst) (TRef.of (T := ⟨S_, .i32⟩) main_call0_c) (TRef.of (T := ⟨S8192x64, .i32⟩) main_v30) (fun x y u v j => (Host.argReduce reducer_argmax_f32_i32 x y u v reducesTo_S8192x64x16_S8192x64_d2 h_S_ j).2),
    TRef.unary (TRef.of (T := ⟨S8192x64, .i32⟩) main_v30) (TRef.of (T := ⟨S8192x64x1, .i32⟩) main_call1_v0) (broadcastInDim S8192x64x1 ![0, 1] bcast_S8192x64_S8192x64x1_0_1),
    TRef.nullary (TRef.of (T := ⟨S1x1x16, .i32⟩) main_call1_v1) (iotaInDim S1x1x16 32 2),
    TRef.unary (TRef.of (T := ⟨S8192x64x1, .i32⟩) main_call1_v0) (TRef.of (T := ⟨S8192x64x16, .i32⟩) main_call1_v2) (broadcastInDim S8192x64x16 ![0, 1, 2] bcast_S8192x64x1_S8192x64x16_0_1_2),
    TRef.unary (TRef.of (T := ⟨S1x1x16, .i32⟩) main_call1_v1) (TRef.of (T := ⟨S8192x64x16, .i32⟩) main_call1_v3) (broadcastInDim S8192x64x16 ![0, 1, 2] bcast_S1x1x16_S8192x64x16_0_1_2),
    TRef.binary (TRef.of (T := ⟨S8192x64x16, .i32⟩) main_call1_v2) (TRef.of (T := ⟨S8192x64x16, .i32⟩) main_call1_v3) (TRef.of (T := ⟨S8192x64x16, .i1⟩) main_call1_v4) (cmpi .eq),
    TRef.unary (TRef.of (T := ⟨S8192x64x16, .i1⟩) main_call1_v4) (TRef.of (T := ⟨S8192x64x16, .f32⟩) main_v31) (uitofp .f32),
    binary main_v31 main_v29 main_v32 (subf : (⟨S8192x64x16, .f32⟩ : BufTy).Contents (Elt F) → (⟨S8192x64x16, .f32⟩ : BufTy).Contents (Elt F) → (⟨S8192x64x16, .f32⟩ : BufTy).Contents (Elt F)),
    binary main_v32 main_v29 main_v33 (addf : (⟨S8192x64x16, .f32⟩ : BufTy).Contents (Elt F) → (⟨S8192x64x16, .f32⟩ : BufTy).Contents (Elt F) → (⟨S8192x64x16, .f32⟩ : BufTy).Contents (Elt F)),
    binary main_v33 main_arg2 main_v34 ((fun l r => Host.dotGeneral dot_S8192x64x16_S512x64x16_S8192x512_12_12_0_0_n_n none l r) : (⟨S8192x64x16, .f32⟩ : BufTy).Contents (Elt F) → (⟨S512x64x16, .f32⟩ : BufTy).Contents (Elt F) → (⟨S8192x512, .f32⟩ : BufTy).Contents (Elt F)) ]

set_option maxRecDepth 8192 in
/-- The reference's main is this list of operations. -/
theorem main_eq (c : Dev nD) : main (F := F) c = seq ops := rfl

/-- The reference has no scoped buffer. -/
theorem scopedRefs_eq : (Finset.univ.filter fun b : Ref sig .tc => b.isScoped) = ∅ := by decide

/-- The reference has no scoped semaphore. -/
theorem scopedSems_eq : (Finset.univ.filter fun sm : SemLoc sig => sm.isScoped .tc) = ∅ := by decide

set_option maxRecDepth 8192 in
/-- Every operation works on the core's own buffers. -/
theorem ops_sub : (ops : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., binary_bufs_sub ..⟩

/-- The reference's result at the launch contents of its arguments. -/
abbrev resultAt (m : (ℓ : Loc nD τ sig) → Buf (Elt F) ℓ) (c : Dev nD) : Buf (Elt F) ((c.tc : Thread nD τ).loc main_v34) :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 8192 in
set_option maxHeartbeats 4000000 in
/-- On every device, from any memory with zero counters, the reference's run ends with its result buffer at the
    composition of the stages and with every argument as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v34).trans (by
        simp only [ops, TRef.binary, TRef.nullary, TRef.unary, TRef.quaternary, TRef.toBuf, TRef.ofBuf, cast_eq]
        after_results_simp <;> rfl),
      (h c main_arg0).trans (by simp only [ops, TRef.binary, TRef.nullary, TRef.unary, TRef.quaternary, TRef.toBuf, TRef.ofBuf, cast_eq]; after_results_simp <;> rfl),
      (h c main_arg1).trans (by simp only [ops, TRef.binary, TRef.nullary, TRef.unary, TRef.quaternary, TRef.toBuf, TRef.ofBuf, cast_eq]; after_results_simp <;> rfl),
      (h c main_arg2).trans (by simp only [ops, TRef.binary, TRef.nullary, TRef.unary, TRef.quaternary, TRef.toBuf, TRef.ofBuf, cast_eq]; after_results_simp <;> rfl),
      (h c main_arg3).trans (by simp only [ops, TRef.binary, TRef.nullary, TRef.unary, TRef.quaternary, TRef.toBuf, TRef.ofBuf, cast_eq]; after_results_simp <;> rfl),
      (h c main_arg4).trans (by simp only [ops, TRef.binary, TRef.nullary, TRef.unary, TRef.quaternary, TRef.toBuf, TRef.ofBuf, cast_eq]; after_results_simp <;> rfl),
      (h c main_arg5).trans (by simp only [ops, TRef.binary, TRef.nullary, TRef.unary, TRef.quaternary, TRef.toBuf, TRef.ofBuf, cast_eq]; after_results_simp <;> rfl)⟩)
    (run_seq scopedRefs_eq scopedSems_eq defs main (fun _ => ops) main_eq (fun _ => ops_sub) m ρ)

end Cert.Proof.RefRun

end
-- ==== Proof.RefStages.lean ====
/-
  THE REFERENCE'S STAGES AT AN ENTRY: each stage's entry from the entries of the stage before it.
-/
module

public import proofs.«01_k».proof.Proof.RefRun
public import proofs.«01_k».proof.Proof.Walk
public import proofs.«01_k».proof.Proof.Words

@[expose] public section

set_option maxRecDepth 16384

noncomputable section

namespace Cert.Proof.RefStages

open Cert.ReferenceIdeal Cert.ReferenceIdeal.Gen Idealize.ShloMosaic Cert.Proof.RefRun Cert.Proof.Tree Cert.Proof.Walk

/-- An input of tree `c`, at level `k`: the row's projection. -/
theorem inputs_apply (x : FVec Ideal S8192x512 .f32) (a : FVec Ideal S64x8x4 .f32) (n : Fin 8192) (c : Fin 64) (k : Fin 4) :
    inputs x a (ix2 n ⟨c.val * 4 + k.val, by omega⟩) = along (fun q => x (ix2 n q)) a c k := by
  pointwise [inputs]
  rfl

/-- A margin: the row's inputs times the node's row of the selection matrix, minus the node's threshold. -/
theorem margin_apply (x : FVec Ideal S8192x512 .f32) (t : FVec Ideal S960 .f32) (s : FVec Ideal S960x256 .f32)
    (a : FVec Ideal S64x8x4 .f32) (n : Fin 8192) (q : Fin 960) :
    margin x t s a (ix2 n q) = (∑ y : Fin 256, inputs x a (ix2 n y) * s (ix2 q y)) - t (ix1 q) := by
  pointwise [margin]

/-- A margin's sign. -/
theorem signs_apply (h : FVec Ideal S8192x960 .f32) (n : Fin 8192) (q : Fin 960) :
    signs h (ix2 n q) = Ideal.sign (h (ix2 n q)) - Ideal.tanh (h (ix2 n q)) + Ideal.tanh (h (ix2 n q)) := by
  pointwise [signs]

/-- A leaf's score. -/
theorem scores_apply (g : FVec Ideal S8192x960 .f32) (b : FVec Ideal S1024x960 .f32) (n : Fin 8192) (c : Fin 64) (k : Fin 16) :
    scores g b (ix3 n c k) = ∑ y : Fin 960, g (ix2 n y) * b (ix2 ⟨c.val * 16 + k.val, by omega⟩ y) := by
  pointwise [scores]

/-- The largest of a row's scores of a tree. -/
theorem max_apply (g : FVec Ideal S8192x64x16 .f32) (m : FVec Ideal S_ .f32) (n : Fin 8192) (c : Fin 64) :
    (Host.reduce FloatOps.maximumf g m reducesTo_S8192x64x16_S8192x64_d2 h_S_) (ix2 n c) =
      Finset.fold max (m (Shape.Idx.first h_S_)) (fun x => g (ix3 n c x)) Finset.univ := by
  pointwise

/-- Each entry's exponential under a given bound of its row and tree. -/
def expoUnder (z : FVec Ideal S8192x64x16 .f32) (w : FVec Ideal S8192x64 .f32) : FVec Ideal S8192x64x16 .f32 :=
  Host.exp (subf z (broadcastInDim S8192x64x16 ![0, 1, 2] bcast_S8192x64x1_S8192x64x16_0_1_2
    (broadcastInDim S8192x64x1 ![0, 1] bcast_S8192x64_S8192x64x1_0_1
      (maximumf (broadcastInDim S8192x64 ![] bcast_S_S8192x64 (constant S_ .f32 0xFF800000#32)) w))))

/-- Such an exponential, at an entry. -/
theorem expoUnder_apply (z : FVec Ideal S8192x64x16 .f32) (w : FVec Ideal S8192x64 .f32) (n : Fin 8192) (c : Fin 64) (k : Fin 16) :
    expoUnder z w (ix3 n c k) = Ideal.exp (z (ix3 n c k) - max (Ideal.ofBits .f32 0xFF800000#32) (w (ix2 n c))) := by
  pointwise [expoUnder]

/-- An exponential: of the score under the largest of its row and tree. -/
theorem expo_apply (z : FVec Ideal S8192x64x16 .f32) (n : Fin 8192) (c : Fin 64) (k : Fin 16) :
    expo z (ix3 n c k) = Ideal.exp (z (ix3 n c k) - Finset.fold max ⊥ (fun x => z (ix3 n c x)) Finset.univ) := by
  refine (expoUnder_apply z _ n c k).trans ?_
  rw [max_apply, Words.neg_inf, max_eq_right bot_le]
  exact congrArg (fun u => Ideal.exp (z (ix3 n c k) - Finset.fold max u (fun x => z (ix3 n c x)) Finset.univ)) Words.neg_inf

/-- A share. -/
theorem share_apply (e : FVec Ideal S8192x64x16 .f32) (n : Fin 8192) (c : Fin 64) (k : Fin 16) :
    share e (ix3 n c k) = Ideal.div (e (ix3 n c k)) (∑ x : Fin 16, e (ix3 n c x)) := by
  pointwise [share]

/-- One at a place, zero elsewhere. -/
theorem oneHot_apply (p : IVec S8192x64 32) (n : Fin 8192) (c : Fin 64) (k b : Fin 16) (h : p (ix2 n c) = BitVec.ofNat 32 b.val) :
    oneHot (F := Ideal) p (ix3 n c k) = if k = b then (1 : EReal) else 0 := by
  pointwise [oneHot]
  rw [h, Words.eq_counts _ _ (by omega) (by omega), Words.of_bool]
  by_cases h : k = b <;> simp [h, Fin.val_inj, eq_comm]

/-- The encoding: the one at the place of the largest share, less the share, plus the share. -/
theorem chosen_apply (p : FVec Ideal S8192x64x16 .f32) (n : Fin 8192) (c : Fin 64) (k : Fin 16) :
    chosen p (ix3 n c k) = oneHot (F := Ideal) (place p) (ix3 n c k) - p (ix3 n c k) + p (ix3 n c k) := by
  pointwise [chosen]

/-- The encoding times the table. -/
theorem result_apply (e : FVec Ideal S8192x64x16 .f32) (l : FVec Ideal S512x64x16 .f32) (n : Fin 8192) (o : Fin 512) :
    Host.dotGeneral (F := Ideal) dot_S8192x64x16_S512x64x16_S8192x512_12_12_0_0_n_n none e l (ix2 n o) =
      ∑ c : Fin 64, ∑ k : Fin 16, e (ix3 n c k) * l (ix3 o c k) := by
  pointwise

end Cert.Proof.RefStages

end
-- ==== Proof.Place.lean ====
/-
  THE PLACE OF THE LARGEST SHARE. The reduction that looks for it goes through a tree's sixteen shares; where one is above
  all the others, that one's place is what it keeps.
-/
module

public import proofs.«01_k».proof.Proof.RefRun
public import proofs.«01_k».proof.Proof.Words

@[expose] public section

set_option maxRecDepth 16384

noncomputable section

namespace Cert.Proof.Place

open Cert.ReferenceIdeal Cert.ReferenceIdeal.Gen Idealize.ShloMosaic Cert.Proof.RefRun

/-- Which of two candidates with different values is kept: the first when its value is larger. -/
theorem keep_first (a b : Ideal .f32 × BitVec 32) (h : (b.1 : EReal) < a.1) : reducer_argmax_f32_i32 (F := Ideal) a b = a := by
  have e : ∀ z : BitVec 1, 1#1 ||| z = 1#1 := by decide
  simp only [reducer_argmax_f32_i32, Ideal.cmpf_def, Ideal.cmp]
  simp [h, Scalar.select, IntOp.ori, e]

/-- And the second when its value is larger. -/
theorem keep_second (a b : Ideal .f32 × BitVec 32) (h : (a.1 : EReal) < b.1) : reducer_argmax_f32_i32 (F := Ideal) a b = b := by
  simp only [reducer_argmax_f32_i32, Ideal.cmpf_def, Ideal.cmp]
  simp [h.not_gt, h.ne, Scalar.select, IntOp.ori, IntOp.andi]

/-- A candidate against itself stays. -/
theorem keep_same (a : Ideal .f32 × BitVec 32) : reducer_argmax_f32_i32 (F := Ideal) a a = a := by
  simp only [reducer_argmax_f32_i32, Scalar.select]
  ext <;> split_ifs <;> rfl

/-- The kept value is one of the two. -/
theorem keep_value (a b : Ideal .f32 × BitVec 32) : (reducer_argmax_f32_i32 (F := Ideal) a b).1 = a.1
    ∨ (reducer_argmax_f32_i32 (F := Ideal) a b).1 = b.1 := by
  simp only [reducer_argmax_f32_i32, Scalar.select]
  split_ifs <;> simp

/-- Going through a list, a candidate above all the others is what is kept in the end. -/
theorem keep_all (p : Ideal .f32 × BitVec 32) : ∀ (L : List (Ideal .f32 × BitVec 32)) (a : Ideal .f32 × BitVec 32),
    (a = p ∨ (a.1 : EReal) < p.1) → (∀ q ∈ L, q = p ∨ (q.1 : EReal) < p.1) → (a = p ∨ p ∈ L) →
    L.foldl (reducer_argmax_f32_i32 (F := Ideal)) a = p
  | [], a, _, _, h => h.resolve_right List.not_mem_nil
  | q :: L, a, ha, hL, h => by
    have hq := hL q List.mem_cons_self
    have step : reducer_argmax_f32_i32 (F := Ideal) a q = p ∨
        (((reducer_argmax_f32_i32 (F := Ideal) a q).1 : EReal) < p.1 ∧ a ≠ p ∧ q ≠ p) := by
      rcases ha with rfl | ha <;> rcases hq with rfl | hq
      · exact .inl (keep_same _)
      · exact .inl (keep_first _ _ hq)
      · exact .inl (keep_second _ _ ha)
      · refine .inr ⟨?_, fun e => absurd ha (by rw [e]; exact lt_irrefl _), fun e => absurd hq (by rw [e]; exact lt_irrefl _)⟩
        rcases keep_value a q with e | e <;> rw [e] <;> assumption
    refine keep_all p L _ (step.imp_right And.left) (fun q hq => hL q (List.mem_cons_of_mem _ hq)) ?_
    rcases step with h' | ⟨_, h1, h2⟩
    · exact .inl h'
    · exact .inr ((List.mem_cons.mp (h.resolve_left h1)).resolve_left (Ne.symm h2))

/-- Of the entries a reduction brings to one place, one above all the others is what the reduction keeps. -/
theorem keep_fiber {s t u : Shape} {axes : List (Fin s.rank)} (x : FVec Ideal s .f32) (y : IVec s 32) (ix : FVec Ideal u .f32)
    (iy : IVec u 32) (h : s.ReducesTo axes t) (hu : 0 < u.numel) (j : t.Idx) (i₀ : s.Idx) (hi : h.drop i₀ = j)
    (h0 : (ix (Shape.Idx.first hu) : EReal) < x i₀) (hmax : ∀ i, h.drop i = j → i = i₀ ∨ (x i : EReal) < x i₀) :
    Host.argReduce (reducer_argmax_f32_i32 (F := Ideal)) x y ix iy h hu j = (x i₀, y i₀) := by
  rw [Ideal.argReduce_eq_reduce2, Host.reduce2_eq_foldl_fiber]
  refine keep_all (x i₀, y i₀) _ _ (.inr h0) (fun q hq => ?_) (.inr ?_)
  · obtain ⟨w, hw, rfl⟩ := List.mem_map.mp hq
    refine (hmax _ (of_decide_eq_true (List.mem_filter.mp hw).2)).imp (fun e => ?_) id
    rw [e]
  · refine List.mem_map.mpr ⟨s.rowMajor i₀, List.mem_filter.mpr ⟨List.mem_finRange _, decide_eq_true ?_⟩, ?_⟩ <;>
      rw [Equiv.symm_apply_apply]
    exact hi

/-- The entries that the reduction along a tree's leaves brings to one place are the tree's own. -/
theorem drop_inv (i : S8192x64x16.Idx) (n : Fin 8192) (c : Fin 64)
    (h : reducesTo_S8192x64x16_S8192x64_d2.drop i = ix2 n c) : i = ix3 n c (i 2) := by
  funext a
  fin_cases a
  · exact congrFun h 0
  · exact congrFun h 1
  · rfl

/-- The reduction brings a tree's entries to the tree's place. -/
theorem drop_apply (n : Fin 8192) (c : Fin 64) (k : Fin 16) :
    reducesTo_S8192x64x16_S8192x64_d2.drop (ix3 n c k) = ix2 n c := by
  funext a
  fin_cases a <;> rfl

/-- The place is the second part of what the reduction keeps. -/
theorem place_eq (p : FVec Ideal S8192x64x16 .f32) : place p = fun j =>
    (Host.argReduce reducer_argmax_f32_i32 p (iotaInDim S8192x64x16 32 2) (constant S_ .f32 0xFF800000#32)
      (constantI S_ 32 0#32) reducesTo_S8192x64x16_S8192x64_d2 h_S_ j).2 := rfl

/-- The place of a tree's share that is above all its others. -/
theorem place_apply (p : FVec Ideal S8192x64x16 .f32) (n : Fin 8192) (c : Fin 64) (b : Fin 16)
    (hb : (⊥ : EReal) < p (ix3 n c b)) (h : ∀ k, k ≠ b → (p (ix3 n c k) : EReal) < p (ix3 n c b)) :
    place p (ix2 n c) = BitVec.ofNat 32 b.val := by
  have key := keep_fiber p (iotaInDim S8192x64x16 32 2) (constant S_ .f32 0xFF800000#32) (constantI S_ 32 0#32)
    reducesTo_S8192x64x16_S8192x64_d2 h_S_ (ix2 n c) (ix3 n c b) (drop_apply n c b) (Words.neg_inf.trans_lt hb) fun i hi => by
      by_cases hk : i 2 = b
      · exact .inl ((drop_inv i n c hi).trans (congrArg (ix3 n c) hk))
      · exact .inr (lt_of_eq_of_lt (congrArg p (drop_inv i n c hi)) (h _ hk))
  exact (congrFun (place_eq p) (ix2 n c)).trans (congrArg Prod.snd key)

end Cert.Proof.Place

end
-- ==== Proof.Pre.lean ====
/-
  WHAT THE PRECONDITION SAYS. The selection and the sign matrices are the two block-diagonal ones, the table is of reals, and
  no margin is zero.
-/
module

public import proofs.«01_k».proof.Proof.RefRun
public import proofs.«01_k».proof.Proof.Tree
public import proofs.«01_k».proof.Proof.Words
public import proofs.«01_k».proof.Proof.Gen.Pre_tree_inputs

@[expose] public section

set_option maxRecDepth 16384

noncomputable section

namespace Cert.Proof.Pre

open Cert.Pre_tree_inputs Cert.Pre_tree_inputs.Gen Idealize.ShloMosaic Cert.Proof.Tree

/-- The selection matrix asked for, by tree, node, tree and level. -/
def selection : FVec Ideal S64x15x64x4 .f32 :=
  select (cmpi .eq (iotaInDim S64x15x64x4 32 0) (iotaInDim S64x15x64x4 32 2))
    (broadcastInDim S64x15x64x4 ![1, 3] bcast_S15x4_S64x15x64x4_1_3 fun i => FloatOps.ofBits .f32 (lit0 (S15x4.rowMajor i)))
    (broadcastInDim S64x15x64x4 ![] bcast_S_S64x15x64x4 (constant S_ .f32 0x00000000#32))

/-- The sign matrix asked for, by tree, leaf, tree and node. -/
def weights : FVec Ideal S64x16x64x15 .f32 :=
  select (cmpi .eq (iotaInDim S64x16x64x15 32 0) (iotaInDim S64x16x64x15 32 2))
    (broadcastInDim S64x16x64x15 ![1, 3] bcast_S16x15_S64x16x64x15_1_3 fun i => FloatOps.ofBits .f32 (lit1 (S16x15.rowMajor i)))
    (broadcastInDim S64x16x64x15 ![] bcast_S_S64x16x64x15 (constant S_ .f32 0x00000000#32))

/-- The words of one tree's selection matrix. -/
theorem selection_words : ∀ (i : Fin 15) (k : Fin 4), lit0 ⟨i.val * 4 + k.val, by omega⟩ =
    if level i = k then 0x3F800000#32 else 0x00000000#32 := by decide

/-- The words of one tree's sign matrix. -/
theorem weight_words : ∀ (k : Fin 16) (i : Fin 15), lit1 ⟨k.val * 15 + i.val, by omega⟩ =
    if weight k i = 1 then 0x3F800000#32 else if weight k i = -1 then 0xBF800000#32 else 0x00000000#32 := by decide

/-- A tree's weights are one, minus one and zero. -/
theorem weight_cases : ∀ (k : Fin 16) (i : Fin 15), weight k i = 1 ∨ weight k i = -1 ∨ weight k i = 0 := by decide

/-- The selection matrix at an entry. -/
theorem selection_apply (c : Fin 64) (i : Fin 15) (c' : Fin 64) (k : Fin 4) :
    selection (ix4 c i c' k) = if c = c' ∧ level i = k then 1 else 0 := by
  have hw : lit0 (S15x4.rowMajor (ix2 i k)) = if level i = k then 0x3F800000#32 else 0x00000000#32 := by
    rw [← selection_words]
    exact congrArg lit0 (Fin.ext (Shape.rowMajor_val_two _))
  pointwise [selection]
  rw [Words.eq_counts _ _ (by omega) (by omega), WordCmp.select_ofBool, hw]
  by_cases h : c = c' <;> by_cases h' : level i = k <;>
    simp [h, h', Fin.val_inj, Ideal.ofBits_one_f32, Ideal.ofBits_zero_f32]

/-- The sign matrix at an entry. -/
theorem weights_apply (c : Fin 64) (k : Fin 16) (c' : Fin 64) (i : Fin 15) :
    weights (ix4 c k c' i) = if c = c' then er (weight k i) else 0 := by
  have hw : lit1 (S16x15.rowMajor (ix2 k i)) =
      if weight k i = 1 then 0x3F800000#32 else if weight k i = -1 then 0xBF800000#32 else 0x00000000#32 := by
    rw [← weight_words]
    exact congrArg lit1 (Fin.ext (Shape.rowMajor_val_two _))
  pointwise [weights]
  rw [Words.eq_counts _ _ (by omega) (by omega), WordCmp.select_ofBool, hw]
  by_cases h : c = c'
  · rcases weight_cases k i with h' | h' | h' <;>
      simp [h, h', Ideal.ofBits_one_f32, Ideal.ofBits_zero_f32, Words.neg_one, er_one, er_neg_one, er_zero]
  · simp [h, Fin.val_inj, Ideal.ofBits_zero_f32]

/-- What is asked of the arguments, entry by entry. -/
structure Holds (x : FVec Ideal S8192x512 .f32) (t : FVec Ideal S960 .f32) (l : FVec Ideal S512x64x16 .f32)
    (s : FVec Ideal S960x256 .f32) (b : FVec Ideal S1024x960 .f32) (a : FVec Ideal S64x8x4 .f32) : Prop where
  /-- The selection matrix's entries. -/
  sel : ∀ (c : Fin 64) (i : Fin 15) (c' : Fin 64) (k : Fin 4),
    s (ix2 ⟨c.val * 15 + i.val, by omega⟩ ⟨c'.val * 4 + k.val, by omega⟩) = if c = c' ∧ level i = k then (1 : EReal) else 0
  /-- The sign matrix's entries. -/
  sig : ∀ (c : Fin 64) (k : Fin 16) (c' : Fin 64) (i : Fin 15),
    b (ix2 ⟨c.val * 16 + k.val, by omega⟩ ⟨c'.val * 15 + i.val, by omega⟩) = if c = c' then er (weight k i) else 0
  /-- The table is of reals. -/
  fin : ∃ v : S512x64x16.Idx → ℝ, ∀ i, l i = (v i : EReal)
  /-- No margin is zero. -/
  tie : ∀ i, RefRun.margin (F := Ideal) x t s a i ≠ (0 : EReal)

/-- The printed precondition asks that of the arguments. -/
theorem holds (x : FVec Ideal S8192x512 .f32) (t : FVec Ideal S960 .f32) (l : FVec Ideal S512x64x16 .f32)
    (s : FVec Ideal S960x256 .f32) (b : FVec Ideal S1024x960 .f32) (a : FVec Ideal S64x8x4 .f32)
    (h1 : (fn (F := Ideal) x t l s b a).1 = fun _ => 1#1) (h2 : (fn (F := Ideal) x t l s b a).2.1 = fun _ => 1#1)
    (h3 : (fn (F := Ideal) x t l s b a).2.2.1 = fun _ => 1#1) (h4 : (fn (F := Ideal) x t l s b a).2.2.2 = fun _ => 1#1) :
    Holds x t l s b a := by
  replace h1 : cmpf .oeq (shapeCast S64x15x64x4 s shapeCasts_S960x256_S64x15x64x4) selection = fun _ => 1#1 := h1
  replace h2 : cmpf .oeq (shapeCast S64x16x64x15 b shapeCasts_S1024x960_S64x16x64x15) weights = fun _ => 1#1 := h2
  replace h3 : cmpf .olt (Host.absf l) (broadcastInDim S512x64x16 ![] bcast_S_S512x64x16 (constant S_ .f32 0x7F800000#32))
    = fun _ => 1#1 := h3
  replace h4 : cmpf .une (RefRun.margin (F := Ideal) x t s a)
    (broadcastInDim S8192x960 ![] bcast_S_S8192x960 (constant S_ .f32 0x00000000#32)) = fun _ => 1#1 := h4
  constructor
  · intro c i c' k
    have e : shapeCast S64x15x64x4 s shapeCasts_S960x256_S64x15x64x4 (ix4 c i c' k) =
        s (ix2 ⟨c.val * 15 + i.val, by omega⟩ ⟨c'.val * 4 + k.val, by omega⟩) := by pointwise
    rw [← e, ← selection_apply]
    exact Words.eq_of_oeq _ _ (congrFun h1 (ix4 c i c' k))
  · intro c k c' i
    have e : shapeCast S64x16x64x15 b shapeCasts_S1024x960_S64x16x64x15 (ix4 c k c' i) =
        b (ix2 ⟨c.val * 16 + k.val, by omega⟩ ⟨c'.val * 15 + i.val, by omega⟩) := by pointwise
    rw [← e, ← weights_apply]
    exact Words.eq_of_oeq _ _ (congrFun h2 (ix4 c k c' i))
  · exact ⟨fun i => EReal.toReal (l i), fun i => Words.real_of_abs_lt _ (congrFun h3 i)⟩
  · intro i hi
    refine Words.ne_of_une _ _ (congrFun h4 i) (hi.trans ?_)
    exact Ideal.ofBits_zero_f32.symm

end Cert.Proof.Pre

end
-- ==== Proof.RefValue.lean ====
/-
  WHAT THE REFERENCE COMPUTES. Under the precondition every stage of the reference is a real quantity of the row's decisions:
  the signs, the scores, the shares; the largest share is the one of the leaf the walk ends in; and so the result is the
  rows' answers.
-/
module

public import proofs.«01_k».proof.Proof.RefStages
public import proofs.«01_k».proof.Proof.Place
public import proofs.«01_k».proof.Proof.Pre

@[expose] public section

set_option maxRecDepth 16384

noncomputable section

namespace Cert.Proof.RefValue

open Cert.ReferenceIdeal Cert.ReferenceIdeal.Gen Idealize.ShloMosaic Cert.Proof.RefRun Cert.Proof.RefStages Cert.Proof.Place
  Cert.Proof.Tree Cert.Proof.Walk Cert.Proof.Pre

/-! ### Of numbers alone -/

/-- The hyperbolic tangent of an extended real is a real. -/
theorem tanh_real (h : EReal) : ∃ r : ℝ, Ideal.tanh h = (r : EReal) := by
  induction h using EReal.rec with
  | bot => exact ⟨-1, by simp⟩
  | top => exact ⟨1, by simp⟩
  | coe r => exact ⟨Real.tanh r, rfl⟩

/-- The sign of a difference that is not zero says which of the two is larger. -/
theorem sign_sub (p t : EReal) (h : p - t ≠ 0) : Ideal.sign (p - t) = er (sg (decide (t < p))) := by
  by_cases ht : t < p
  · rw [Ideal.sign_of_pos (EReal.sub_pos.2 ht), decide_eq_true ht]
    exact er_one.symm
  · rw [Ideal.sign_of_neg (lt_of_le_of_ne (EReal.sub_nonpos.2 (not_lt.1 ht)) h), decide_eq_false ht]
    exact er_neg_one.symm

/-- A leaf's weight before the division: the exponential of its score under the walk's own leaf's. -/
def mass (d : Fin 15 → Bool) (k : Fin 16) : ℝ := Real.exp ((score d k : ℝ) - 4)

/-- The weights' sum. -/
def total (d : Fin 15 → Bool) : ℝ := ∑ k : Fin 16, mass d k

/-- The weights' sum is positive. -/
theorem total_pos (d : Fin 15 → Bool) : 0 < total d :=
  Finset.sum_pos (fun _ _ => Real.exp_pos _) Finset.univ_nonempty

/-- The walk's leaf has the largest share, alone. -/
theorem mass_lt (d : Fin 15 → Bool) (k : Fin 16) (h : k ≠ leaf d) : mass d k * (1 / total d) < mass d (leaf d) * (1 / total d) := by
  refine mul_lt_mul_of_pos_right (Real.exp_lt_exp.2 ?_) (one_div_pos.2 (total_pos d))
  have h2 : (score d k : ℝ) ≤ 2 := by exact_mod_cast score_other d k h
  have h4 : (score d (leaf d) : ℝ) = 4 := by exact_mod_cast score_leaf d
  linarith

/-- The largest score is four. -/
theorem fold_max (d : Fin 15 → Bool) : Finset.fold max ⊥ (fun k => er (score d k)) Finset.univ = er 4 := by
  have mono : ∀ a b : ℤ, a ≤ b → er a ≤ er b := fun a b h => by
    simp only [er, EReal.coe_le_coe_iff]
    exact_mod_cast h
  refine le_antisymm (Finset.fold_max_le _ |>.2 ⟨bot_le, fun k _ => mono _ _ ?_⟩) ?_
  · by_cases h : k = leaf d
    · rw [h, score_leaf]
    · exact (score_other d k h).trans (by decide)
  · exact (Finset.le_fold_max _).2 (.inr ⟨leaf d, Finset.mem_univ _, by rw [score_leaf]⟩)

/-! ### The stages under the precondition -/

variable {x : FVec Ideal S8192x512 .f32} {t : FVec Ideal S960 .f32} {l : FVec Ideal S512x64x16 .f32}
  {s : FVec Ideal S960x256 .f32} {b : FVec Ideal S1024x960 .f32} {a : FVec Ideal S64x8x4 .f32}

/-- A margin: the projection the node's level reads, minus the node's threshold. -/
theorem margin_value (H : Holds x t l s b a) (n : Fin 8192) (c : Fin 64) (i : Fin 15) :
    margin x t s a (ix2 n ⟨c.val * 15 + i.val, by omega⟩) =
      along (fun q => x (ix2 n q)) a c (level i) - t (ix1 ⟨c.val * 15 + i.val, by omega⟩) := by
  rw [margin_apply, ← Fin.sum_mul_add_fin 64 4]
  refine congrArg (fun z : EReal => z - t (ix1 ⟨c.val * 15 + i.val, by omega⟩)) ?_
  refine (Finset.sum_eq_single_of_mem c (Finset.mem_univ _) fun c' _ hc => Finset.sum_eq_zero fun k _ => ?_).trans
    ((Finset.sum_eq_single_of_mem (level i) (Finset.mem_univ _) fun k _ hk => ?_).trans ?_)
  · rw [H.sel, if_neg fun h => hc h.1.symm]
    exact mul_zero _
  · rw [H.sel, if_neg fun h => hk h.2.symm]
    exact mul_zero _
  · rw [H.sel, if_pos ⟨rfl, rfl⟩, inputs_apply]
    exact mul_one _

/-- A margin's sign is the node's decision. -/
theorem signs_value (H : Holds x t l s b a) (n : Fin 8192) (c : Fin 64) (i : Fin 15) :
    signs (margin x t s a) (ix2 n ⟨c.val * 15 + i.val, by omega⟩) =
      er (sg (decisions t (fun q => x (ix2 n q)) a c i)) := by
  obtain ⟨r, hr⟩ := tanh_real (margin x t s a (ix2 n ⟨c.val * 15 + i.val, by omega⟩))
  rw [signs_apply, hr, EReal.sub_add_cancel, margin_value H]
  refine sign_sub _ _ ?_
  rw [← margin_value H]
  exact H.tie _

/-- A leaf's score is the row's decisions' score of it. -/
theorem scores_value (H : Holds x t l s b a) (n : Fin 8192) (c : Fin 64) (k : Fin 16) :
    scores (signs (margin x t s a)) b (ix3 n c k) = er (score (decisions t (fun q => x (ix2 n q)) a c) k) := by
  rw [scores_apply, ← Fin.sum_mul_add_fin 64 15]
  refine (Finset.sum_eq_single_of_mem c (Finset.mem_univ _) fun c' _ hc => Finset.sum_eq_zero fun i _ => ?_).trans ?_
  · rw [H.sig, if_neg hc.symm]
    exact mul_zero _
  · rw [score, er, Int.cast_sum, coe_sum]
    refine Finset.sum_congr rfl fun i _ => ?_
    rw [H.sig, if_pos rfl, signs_value H]
    exact er_mul _ _

/-- An exponential is the leaf's weight. -/
theorem expo_value (H : Holds x t l s b a) (n : Fin 8192) (c : Fin 64) (k : Fin 16) :
    expo (scores (signs (margin x t s a)) b) (ix3 n c k) = (mass (decisions t (fun q => x (ix2 n q)) a c) k : EReal) := by
  rw [expo_apply]
  simp only [scores_value H]
  rw [fold_max, er, er, ← EReal.coe_sub, Ideal.exp_coe, mass]
  norm_num

/-- A share is the leaf's weight over the weights' sum. -/
theorem share_value (H : Holds x t l s b a) (n : Fin 8192) (c : Fin 64) (k : Fin 16) :
    share (expo (scores (signs (margin x t s a)) b)) (ix3 n c k) =
      ((mass (decisions t (fun q => x (ix2 n q)) a c) k * (1 / total (decisions t (fun q => x (ix2 n q)) a c)) : ℝ) : EReal) := by
  rw [share_apply]
  simp only [expo_value H]
  rw [← coe_sum]
  exact (Ideal.div_coe (total_pos _).ne' _).trans (EReal.coe_mul _ _).symm

/-- The encoding is one at the leaf the walk ends in, zero at the others. -/
theorem chosen_value (H : Holds x t l s b a) (n : Fin 8192) (c : Fin 64) (k : Fin 16) :
    chosen (share (expo (scores (signs (margin x t s a)) b))) (ix3 n c k) =
      if k = leaf (decisions t (fun q => x (ix2 n q)) a c) then (1 : EReal) else 0 := by
  rw [chosen_apply, share_value H, EReal.sub_add_cancel, oneHot_apply]
  refine place_apply _ n c _ ?_ fun k hk => ?_
  · rw [share_value H]
    exact EReal.bot_lt_coe _
  · rw [share_value H, share_value H]
    exact EReal.coe_lt_coe_iff.2 (mass_lt _ k hk)

/-- The reference's result: each row's answer. -/
theorem result_value (H : Holds x t l s b a) (n : Fin 8192) (o : Fin 512) :
    result x t l s b a (ix2 n o) = answer t l a (fun q => x (ix2 n q)) o := by
  refine (result_apply _ l n o).trans (Finset.sum_congr rfl fun c _ => ?_)
  simp only [chosen_value H]
  refine (Finset.sum_eq_single_of_mem (leaf (decisions t (fun q => x (ix2 n q)) a c)) (Finset.mem_univ _) fun k _ hk => ?_).trans ?_
  · rw [if_neg hk]
    exact zero_mul _
  · rw [if_pos rfl]
    exact one_mul _

end Cert.Proof.RefValue

end
-- ==== Proof.lean ====
module

public import proofs.«01_k».proof.Defs
public import proofs.«01_k».proof.Proof.Gen.Pre_tree_inputs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Array
public import proofs.«01_k».proof.Proof.RefValue

@[expose] public section

noncomputable section

namespace Cert.Proof

open Idealize.ShloMosaic Idealize.SL.Sem

/-- `Cert.quiescent_ReferenceIdeal`: the reference runs, its arguments end as they began, and it declares no semaphore. -/
theorem quiescent_reference : Cert.quiescent_ReferenceIdeal := fun m ρ _ =>
  (θ_run Cert.ReferenceIdeal.defs _ _).mono (fun r h => ⟨fun c => (h c).2, sem_eq_zero_of_no_sems (by decide) r.2⟩)
    (RefRun.run (F := Ideal) m ρ)

/-- The reference's result, as an array, under the precondition: every row's answer. -/
theorem reference_array {x t l s b a} (H : Pre.Holds x t l s b a) : RefRun.result (F := Ideal) x t l s b a = Array.arrayAnswer x t l a := by
  funext i
  have e : i = ix2 (i 0) (i 1) := by
    funext q
    fin_cases q <;> rfl
  exact (congrArg (RefRun.result (F := Ideal) x t l s b a) e).trans (RefValue.result_value H (i 0) (i 1))

/-- `Cert.algebraic_KernelIdeal_ReferenceIdeal_pre_tree_inputs`: kernel and reference both leave the answers of the first
    argument's rows. -/
theorem algebraic : Cert.algebraic_KernelIdeal_ReferenceIdeal_pre_tree_inputs := by
  intro m g m' g' hpre hagree
  have H := fun c => Pre.holds _ _ _ _ _ _ (hpre c).1 (hpre c).2.1 (hpre c).2.2.1 (hpre c).2.2.2
  refine ⟨fun c => Array.arrayAnswer (m (c.tc.loc Cert.KernelIdeal.main_arg0)) (m (c.tc.loc Cert.KernelIdeal.main_arg1))
    (m (c.tc.loc Cert.KernelIdeal.main_arg2)) (m (c.tc.loc Cert.KernelIdeal.main_arg5)), ?_, ?_⟩
  · refine (θ_run Cert.KernelIdeal.defs _ _).mono (fun r h c => ⟨(h c).1.trans ?_, (h c).2⟩) (Cert.KernelIdeal.Value.run_blocks m g)
    obtain ⟨v, hv⟩ := (H c).fin
    exact Array.final m c v hv
  · refine (θ_run Cert.ReferenceIdeal.defs _ _).mono (fun r h c => ⟨(h c).1.trans ?_, (h c).2⟩) (RefRun.run (F := Ideal) m' g')
    obtain ⟨h0, h1, h2, h3, h4, h5⟩ := hagree c
    show RefRun.result _ _ _ _ _ _ = _
    rw [h0, h1, h2, h3, h4, h5]
    exact reference_array (H c)

/-- `Cert.Claim`: the programs' frames, generated for the kernel and `quiescent_reference` for the reference; no rewrite to
    preserve; and `algebraic`. -/
theorem claim : Cert.Claim :=
  ⟨Cert.Kernel.Gen.facts, Cert.KernelIdeal.Gen.facts, Cert.ReferenceIdeal.Gen.facts, Cert.Pre_tree_inputs.Gen.facts,
    fun m ρ _ => Cert.Kernel.Gen.frame m ρ, fun m ρ _ => Cert.KernelIdeal.Gen.frame m ρ,
    fun m ρ _ => Cert.KernelIdeal.Gen.frame m ρ, quiescent_reference, fun m ρ _ => quiescent_reference m ρ trivial,
    trivial, algebraic⟩

end Cert.Proof

end
